-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![4096, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S1024x4096 : Shape := ⟨2, ![1024, 4096]⟩
abbrev S2x1024x1024 : Shape := ⟨3, ![2, 1024, 1024]⟩
abbrev S1024x1024 : Shape := ⟨2, ![1024, 1024]⟩
abbrev S1024x2048 : Shape := ⟨2, ![1024, 2048]⟩
abbrev S2x2048x512 : Shape := ⟨3, ![2, 2048, 512]⟩
abbrev S2 : Shape := ⟨1, ![2]⟩
abbrev S_ : Shape := ⟨0, ![]⟩
abbrev S4 : Shape := ⟨1, ![4]⟩
abbrev S1 : Shape := ⟨1, ![1]⟩
abbrev S1x2048x512 : Shape := ⟨3, ![1, 2048, 512]⟩
abbrev S2048x512 : Shape := ⟨2, ![2048, 512]⟩
abbrev S1024x512 : Shape := ⟨2, ![1024, 512]⟩
abbrev S1x1024x1024 : Shape := ⟨3, ![1, 1024, 1024]⟩
abbrev S1x1024x512 : Shape := ⟨3, ![1, 1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S1024x4096, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .f32⟩
  | .local _ .vmem, ⟨9, _⟩ => ⟨S2x2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 4

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.addi v2 c1_i32_10
  let c4_i32_11 : BitVec 32 := 4#32
  let v14 : BitVec 32 := Scalar.remsi v13 c4_i32_11
  let c1024_i32 : BitVec 32 := 1024#32
  let v15 : BitVec 32 := Scalar.muli v14 c1024_i32
  let c0_i32_12 : BitVec 32 := 0#32
  ![v15.toNat, 0]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v58 : BitVec 32 := Scalar.muli v5 c1_i32_58
  let v59 : BitVec 32 := Scalar.addi c0_i32_59 v58
  v59.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_64 : BitVec 32 := 4#32
  let v68 : BitVec 32 := Scalar.addi v2 c4_i32_64
  let c1_i32_65 : BitVec 32 := 1#32
  let v69 : BitVec 32 := Scalar.subi v68 c1_i32_65
  let c4_i32_66 : BitVec 32 := 4#32
  let v70 : BitVec 32 := Scalar.remsi v69 c4_i32_66
  let c1024_i32_67 : BitVec 32 := 1024#32
  let v71 : BitVec 32 := Scalar.muli v70 c1024_i32_67
  let c0_i32_68 : BitVec 32 := 0#32
  ![v71.toNat, 0]
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_119 : BitVec 32 := 1#32
  let v114 : BitVec 32 := Scalar.muli v7 c1_i32_119
  let v115 : BitVec 32 := Scalar.addi c0_i32_120 v114
  v115.toNat
def k0_dev5 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_178 : BitVec 32 := 1#32
  let v169 : BitVec 32 := Scalar.muli v5 c1_i32_178
  let v170 : BitVec 32 := Scalar.addi c0_i32_179 v169
  v170.toNat
def k0_dev6 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_239 : BitVec 32 := 1#32
  let v225 : BitVec 32 := Scalar.muli v7 c1_i32_239
  let v226 : BitVec 32 := Scalar.addi c0_i32_240 v225
  v226.toNat
def k0_off3 (d0 : Dev nD) (c0_i32_246 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_245 : BitVec 32 := 2#32
  let v235 : BitVec 32 := Scalar.addi v2 c2_i32_245
  let v236 : BitVec 32 := Scalar.addi v235 c0_i32_246
  let c4_i32_247 : BitVec 32 := 4#32
  let v237 : BitVec 32 := Scalar.remsi v236 c4_i32_247
  let c1024_i32_248 : BitVec 32 := 1024#32
  let v238 : BitVec 32 := Scalar.muli v237 c1024_i32_248
  let c0_i32_249 : BitVec 32 := 0#32
  ![v238.toNat, 0]
def k0_dev7 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_311 : BitVec 32 := 1#32
  let v289 : BitVec 32 := Scalar.muli v7 c1_i32_311
  let v290 : BitVec 32 := Scalar.addi c0_i32_312 v289
  v290.toNat
def k0_dev8 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_327 : BitVec 32 := 1#32
  let v300 : BitVec 32 := Scalar.muli v5 c1_i32_327
  let v301 : BitVec 32 := Scalar.addi c0_i32_328 v300
  v301.toNat
def k0_dev9 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_393 : BitVec 32 := 1#32
  let v358 : BitVec 32 := Scalar.muli v7 c1_i32_393
  let v359 : BitVec 32 := Scalar.addi c0_i32_394 v358
  v359.toNat
def k0_dev10 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_409 : BitVec 32 := 1#32
  let v369 : BitVec 32 := Scalar.muli v5 c1_i32_409
  let v370 : BitVec 32 := Scalar.addi c0_i32_410 v369
  v370.toNat
def k0_dev11 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_475 : BitVec 32 := 1#32
  let v427 : BitVec 32 := Scalar.muli v5 c1_i32_475
  let v428 : BitVec 32 := Scalar.addi c0_i32_476 v427
  v428.toNat
def k0_dev12 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_491 : BitVec 32 := 1#32
  let v438 : BitVec 32 := Scalar.muli v7 c1_i32_491
  let v439 : BitVec 32 := Scalar.addi c0_i32_492 v438
  v439.toNat
def k0_dev13 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_557 : BitVec 32 := 1#32
  let v496 : BitVec 32 := Scalar.muli v5 c1_i32_557
  let v497 : BitVec 32 := Scalar.addi c0_i32_558 v496
  v497.toNat
def k0_dev14 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_573 : BitVec 32 := 1#32
  let v507 : BitVec 32 := Scalar.muli v7 c1_i32_573
  let v508 : BitVec 32 := Scalar.addi c0_i32_574 v507
  v508.toNat
def k0_dev15 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_645 : BitVec 32 := 1#32
  let v571 : BitVec 32 := Scalar.muli v7 c1_i32_645
  let v572 : BitVec 32 := Scalar.addi c0_i32_646 v571
  v572.toNat
def k0_dev16 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_661 : BitVec 32 := 1#32
  let v582 : BitVec 32 := Scalar.muli v5 c1_i32_661
  let v583 : BitVec 32 := Scalar.addi c0_i32_662 v582
  v583.toNat
def k0_dev17 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_727 : BitVec 32 := 1#32
  let v640 : BitVec 32 := Scalar.muli v7 c1_i32_727
  let v641 : BitVec 32 := Scalar.addi c0_i32_728 v640
  v641.toNat
def k0_dev18 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_743 : BitVec 32 := 1#32
  let v651 : BitVec 32 := Scalar.muli v5 c1_i32_743
  let v652 : BitVec 32 := Scalar.addi c0_i32_744 v651
  v652.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_749 : BitVec 32 := 4#32
  let v661 : BitVec 32 := Scalar.addi v2 c4_i32_749
  let c2_i32_750 : BitVec 32 := 2#32
  let v662 : BitVec 32 := Scalar.addi v661 c2_i32_750
  let c1_i32_751 : BitVec 32 := 1#32
  let v663 : BitVec 32 := Scalar.subi v662 c1_i32_751
  let c4_i32_752 : BitVec 32 := 4#32
  let v664 : BitVec 32 := Scalar.remsi v663 c4_i32_752
  let c1024_i32_753 : BitVec 32 := 1024#32
  let v665 : BitVec 32 := Scalar.muli v664 c1024_i32_753
  let c0_i32_754 : BitVec 32 := 0#32
  ![v665.toNat, 0]
def k0_dev19 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_816 : BitVec 32 := 1#32
  let v716 : BitVec 32 := Scalar.muli v5 c1_i32_816
  let v717 : BitVec 32 := Scalar.addi c0_i32_817 v716
  v717.toNat
def k0_dev20 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_832 : BitVec 32 := 1#32
  let v727 : BitVec 32 := Scalar.muli v7 c1_i32_832
  let v728 : BitVec 32 := Scalar.addi c0_i32_833 v727
  v728.toNat
def k0_dev21 (d0 : Dev nD) : Nat :=
  let c0_i32_899 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_898 : BitVec 32 := 1#32
  let v785 : BitVec 32 := Scalar.muli v5 c1_i32_898
  let v786 : BitVec 32 := Scalar.addi c0_i32_899 v785
  v786.toNat
def k0_dev22 (d0 : Dev nD) : Nat :=
  let c0_i32_915 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_914 : BitVec 32 := 1#32
  let v796 : BitVec 32 := Scalar.muli v7 c1_i32_914
  let v797 : BitVec 32 := Scalar.addi c0_i32_915 v796
  v797.toNat
-- ==== ReferenceIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Prog.lean ====
/-
# The kernel's body, regrouped

The generated skeleton of the body is one long sequence of effects. This module names the blocks the kernel is
made of — loading a row chunk of the left operand, forming one column quarter of the local product tile by tile,
starting a remote copy, taking one hop round the ring, the last hop with the copy out — once for every stream and
slot, and shows that the skeleton is those blocks one after the other.
-/
module

public import proofs.«01_k».proof.Proof.Gen.KernelIdeal
public import proofs.«01_k».proof.Proof.Gen.KernelIdeal.Skeleton
public import proofs.«01_k».proof.Proof.Gen.KernelIdeal.Points

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.Sem

variable {F : FTy → Type} [FloatOps F]

/-! ## The buffers and semaphores, stream by stream -/

/-- Stream `kk`'s communication buffer: two slots, one being sent and one being received. -/
abbrev cM : Fin 4 → Memref sig .tc .vmem S2x1024x1024 .bf16
  | 0 => Memref.whole cc0_scratch0 | 1 => Memref.whole cc0_scratch1
  | 2 => Memref.whole cc0_scratch2 | 3 => Memref.whole cc0_scratch3
/-- Stream `kk`'s local product. -/
abbrev tM : Fin 4 → Memref sig .tc .vmem S1024x1024 .f32
  | 0 => Memref.whole cc0_scratch4 | 1 => Memref.whole cc0_scratch5
  | 2 => Memref.whole cc0_scratch6 | 3 => Memref.whole cc0_scratch7
/-- The two operands and the result. -/
abbrev xM : Memref sig .tc .hbm S4096x2048 .f32 := Memref.whole main_arg0
abbrev yM : Memref sig .tc .hbm S2048x4096 .f32 := Memref.whole main_arg1
abbrev oM : Memref sig .tc .hbm S1024x4096 .f32 := Memref.whole main_v1
/-- The row chunk of the left operand, and the two column tiles of the right one. -/
abbrev aM : Memref sig .tc .vmem S1024x2048 .f32 := Memref.whole cc0_scratch8
abbrev bM : Memref sig .tc .vmem S2x2048x512 .f32 := Memref.whole cc0_scratch9

abbrev sdA : Fin 4 → DmaSems sig S2 | 0 => cc0_scratch10 | 1 => cc0_scratch11 | 2 => cc0_scratch12 | 3 => cc0_scratch13
abbrev rvA : Fin 4 → DmaSems sig S2 | 0 => cc0_scratch14 | 1 => cc0_scratch15 | 2 => cc0_scratch16 | 3 => cc0_scratch17
abbrev crA : Fin 4 → Sems sig S_ | 0 => cc0_scratch18 | 1 => cc0_scratch19 | 2 => cc0_scratch20 | 3 => cc0_scratch21

/-- A stream's buffer is a whole buffer, -/
theorem cM_whole : ∀ kk, (cM kk).IsWhole
  | 0 => Memref.isWhole_whole _ | 1 => Memref.isWhole_whole _ | 2 => Memref.isWhole_whole _ | 3 => Memref.isWhole_whole _
/-- and so is its temporary. -/
theorem tM_whole : ∀ kk, (tM kk).IsWhole
  | 0 => Memref.isWhole_whole _ | 1 => Memref.isWhole_whole _ | 2 => Memref.isWhole_whole _ | 3 => Memref.isWhole_whole _

/-- A slot lies inside the stream's buffer. -/
theorem inb_slot (s : Fin 2) (a : Fin 3) : (![s.val, 0, 0] : Fin 3 → Nat) a + S1x1024x1024.size a ≤ S2x1024x1024.size a := by
  revert s a; decide
/-- A semaphore of a pair lies in the pair, -/
theorem inb_sem2 (s : Fin 2) (a : Fin 1) : (![s.val] : Fin 1 → Nat) a + S1.size a ≤ S2.size a := by revert s a; decide
/-- and one of four among the four. -/
theorem inb_sem4 (s : Fin 4) (a : Fin 1) : (![s.val] : Fin 1 → Nat) a + S1.size a ≤ S4.size a := by revert s a; decide
/-- A slot for `B` lies inside its buffer. -/
theorem inb_bslot (s : Fin 2) (a : Fin 3) : (![s.val, 0, 0] : Fin 3 → Nat) a + S1x2048x512.size a ≤ S2x2048x512.size a := by
  revert s a; decide

/-- The rectangle of slot `s` in a communication buffer, the slot as a matrix of its own. -/
abbrev slotR (s : Fin 2) : Rect S2x1024x1024 := Rect.unit (s := S2x1024x1024) ![s.val, 0, 0] S1x1024x1024.size (inb_slot s)
abbrev slotM (kk : Fin 4) (s : Fin 2) : Memref sig .tc .vmem S1024x1024 .bf16 :=
  ((cM kk).slice (slotR s) (fun _ => rfl)).squeeze S1024x1024 squeezes_S1x1024x1024_S1024x1024
/-- The two slots of the tile buffer. -/
abbrev bslotR (s : Fin 2) : Rect S2x2048x512 := Rect.unit (s := S2x2048x512) ![s.val, 0, 0] S1x2048x512.size (inb_bslot s)
abbrev bslotM (s : Fin 2) : Memref sig .tc .vmem S2048x512 .f32 :=
  (bM.slice (bslotR s) (fun _ => rfl)).squeeze S2048x512 squeezes_S1x2048x512_S2048x512

abbrev sdS (kk : Fin 4) (s : Fin 2) : DmaSem sig :=
  (((sdA kk).slice (Rect.unit (s := S2) ![s.val] S1.size (inb_sem2 s))).squeeze S_ squeezes_S1_S_).sem
abbrev rvS (kk : Fin 4) (s : Fin 2) : DmaSem sig :=
  (((rvA kk).slice (Rect.unit (s := S2) ![s.val] S1.size (inb_sem2 s))).squeeze S_ squeezes_S1_S_).sem
abbrev crS (kk : Fin 4) : Sem sig := (crA kk).sem
abbrev barS : Sem sig := (SemArray.scalar (sig.barrier 0 rfl) : Sems sig S_).sem
abbrev aS : DmaSem sig := (cc0_scratch22 : DmaSems sig S_).sem
abbrev bS (s : Fin 2) : DmaSem sig :=
  (((cc0_scratch23 : DmaSems sig S2).slice (Rect.unit (s := S2) ![s.val] S1.size (inb_sem2 s))).squeeze S_ squeezes_S1_S_).sem
abbrev oS (kk : Fin 4) : DmaSem sig :=
  (((cc0_scratch24 : DmaSems sig S4).slice (Rect.unit (s := S4) ![kk.val] S1.size (inb_sem4 kk))).squeeze S_ squeezes_S1_S_).sem

/-- Where stream `kk`'s quarter of the columns starts. -/
abbrev colOff : Fin 4 → Nat | 0 => 2048 | 1 => 3072 | 2 => 0 | 3 => 1024

/-- A tile of `B` lies inside `B`. -/
theorem inb_tile (kk : Fin 4) (j : Fin 2) (a : Fin 2) :
    (![0, colOff kk + 512 * j.val] : Fin 2 → Nat) a + S2048x512.size a ≤ S2048x4096.size a := by revert kk j a; decide
/-- A stream's quarter lies inside the result. -/
theorem inb_out (kk : Fin 4) (a : Fin 2) : (![0, colOff kk] : Fin 2 → Nat) a + S1024x1024.size a ≤ S1024x4096.size a := by
  revert kk a; decide
/-- A half lies inside the temporary, -/
theorem inb_half (j : Fin 2) (a : Fin 2) : (![0, 512 * j.val] : Fin 2 → Nat) a + S1024x512.size a ≤ S1024x1024.size a := by
  revert j a; decide
/-- and a half of slot 0 inside the stream's buffer. -/
theorem inb_chalf (j : Fin 2) (a : Fin 3) : (![0, 0, 512 * j.val] : Fin 3 → Nat) a + S1x1024x512.size a ≤ S2x1024x1024.size a := by
  revert j a; decide

/-- Column tile `j` of stream `kk`'s quarter of the right operand; the quarter of the result. -/
abbrev tileR (kk : Fin 4) (j : Fin 2) : Rect S2048x4096 :=
  Rect.unit (s := S2048x4096) ![0, colOff kk + 512 * j.val] S2048x512.size (inb_tile kk j)
abbrev tileM (kk : Fin 4) (j : Fin 2) : Memref sig .tc .hbm S2048x512 .f32 := yM.slice (tileR kk j) (fun _ => rfl)
abbrev outR (kk : Fin 4) : Rect S1024x4096 := Rect.unit (s := S1024x4096) ![0, colOff kk] S1024x1024.size (inb_out kk)
abbrev outM (kk : Fin 4) : Memref sig .tc .hbm S1024x1024 .f32 := oM.slice (outR kk) (fun _ => rfl)
/-- Half `j` of a local product; half `j` of slot 0 of a communication buffer. -/
abbrev halfR (j : Fin 2) : Rect S1024x1024 := Rect.unit (s := S1024x1024) ![0, 512 * j.val] S1024x512.size (inb_half j)
abbrev chalfR (j : Fin 2) : Rect S2x1024x1024 := Rect.unit (s := S2x1024x1024) ![0, 0, 512 * j.val] S1x1024x512.size (inb_chalf j)
abbrev aR : Rect S1024x2048 := Rect.unit (s := S1024x2048) ![0, 0] S1024x2048.size inb_S1024x2048_S1024x2048_0_0
abbrev tR : Rect S1024x1024 := Rect.unit (s := S1024x1024) ![0, 0] S1024x1024.size inb_S1024x1024_S1024x1024_0_0
/-- A row chunk of the left operand. -/
abbrev chunkM (off : Fin 2 → Nat) (h : ∀ a, off a + S1024x2048.size a ≤ S4096x2048.size a) : Memref sig .tc .hbm S1024x2048 .f32 :=
  xM.slice (Rect.unit (s := S4096x2048) off S1024x2048.size h) (fun _ => rfl)

/-- A slot is made of whole words, -/
theorem words_slot : ∀ s : Fin 2, (slotR s).WholeWords (EltTy.packing .bf16)
  | 0 => wordsbf16_S2x1024x1024_S1x1024x1024_0_0_0 | 1 => wordsbf16_S2x1024x1024_S1x1024x1024_1_0_0
/-- of packed rows, -/
theorem packed_slot : ∀ s : Fin 2, (slotR s).PackedRows (EltTy.packing .bf16)
  | 0 => packedbf16_S2x1024x1024_S1x1024x1024_0_0_0 | 1 => packedbf16_S2x1024x1024_S1x1024x1024_1_0_0
/-- and so is a half of it. -/
theorem packed_chalf : ∀ j : Fin 2, (chalfR j).PackedRows (EltTy.packing .bf16)
  | 0 => packedbf16_S2x1024x1024_S1x1024x512_0_0_0 | 1 => packedbf16_S2x1024x1024_S1x1024x512_0_0_512
/-- No slot is memory of another kind of core. -/
theorem slot_shared : ∀ kk s, (slotM kk s).view.ref.isScScratch = false
  | 0, _ => rfl | 1, _ => rfl | 2, _ => rfl | 3, _ => rfl
/-- A copy of a slot moves whole words. -/
theorem slot_words (kk : Fin 4) (s : Fin 2) : (slotM kk s).view.WordExact :=
  ((cM_whole kk).wordExact_slice rfl _ (words_slot s)).reshape _ _

/-! ## The arithmetic, one name per kind of value -/

/-- One column tile of a local product, as kept in single precision and as put into slot 0 to be sent. -/
abbrev prodF (a : Vec F S1024x2048 .f32) (b : Vec F S1x2048x512 .f32) : Vec F S1024x512 .f32 := k0_pay10 a b
abbrev prodI (a : Vec F S1024x2048 .f32) (b : Vec F S1x2048x512 .f32) : Vec F S1x1024x512 .bf16 := k0_pay1 a b
/-- What came in, with the local product added to it; the last addition, kept in single precision. -/
abbrev accP (u : Vec F S1x1024x1024 .bf16) (t : Vec F S1024x1024 .f32) : Vec F S1x1024x1024 .bf16 := k0_pay12 u t
abbrev finP (t : Vec F S1024x1024 .f32) (u : Vec F S1x1024x1024 .bf16) : Vec F S1024x1024 .f32 := k0_pay40 t u

/-! ## The blocks -/

abbrev KProg (F : FTy → Type) : Type → Type _ := Prog (TpuEff nD τ sig (Elt F) Λ₀ .tc)

/-- Load a row chunk of the left operand. -/
def loadA (off : Fin 2 → Nat) (h : ∀ a, off a + S1024x2048.size a ≤ S4096x2048.size a) : KProg F PUnit := do
  Prog.lift (.enqueueDma (chunkM off h) (.here aM) (.dma aS) (View.wordExact_bits rfl) (Memref.isWhole_whole _).wordExact ⟨Or.inl rfl, trivial⟩)
  Prog.lift (.waitDma2 aS (chunkM off h) aM (View.wordExact_bits rfl) (Memref.isWhole_whole _).wordExact)

/-- Start loading column tile `j`; wait for it. -/
def startB (kk : Fin 4) (j : Fin 2) : KProg F PUnit :=
  Prog.lift (.enqueueDma (tileM kk j) (.here (bslotM j)) (.dma (bS j)) (View.wordExact_bits rfl) ((View.wordExact_bits rfl).reshape _ _) ⟨Or.inl rfl, trivial⟩)
def waitB (kk : Fin 4) (j : Fin 2) : KProg F PUnit :=
  Prog.lift (.waitDma2 (bS j) (tileM kk j) (bslotM j) (View.wordExact_bits rfl) ((View.wordExact_bits rfl).reshape _ _))

def getA : KProg F (Vec F S1024x2048 .f32) := Prog.lift (.load aM aR.toLoadRect (View.loadsAt_vmem h_S1024x2048))
def getB (j : Fin 2) : KProg F (Vec F S1x2048x512 .f32) := Prog.lift (.load bM (bslotR j).toLoadRect (View.loadsAt_vmem h_S1x2048x512))

/-- One tile of the local product, into the temporary. -/
def tileF (kk : Fin 4) (j : Fin 2) : KProg F PUnit := do
  waitB kk j
  let a ← getA
  let b ← getB j
  let _ ← Prog.lift (.load (tM kk) (halfR j).toLoadRect (View.loadsAt_vmem h_S1024x512))
  Prog.lift (.store (tM kk) (halfR j) (prodF a b) Finset.univ (View.stores_vmem_bits_univ h_S1024x512 rfl) (.inl rfl))

/-- One tile of the local product, rounded, into slot 0 of the communication buffer. -/
def tileI (kk : Fin 4) (j : Fin 2) : KProg F PUnit := do
  waitB kk j
  let a ← getA
  let b ← getB j
  let _ ← Prog.lift (.load (slotM kk 0) (halfR j).toLoadRect (View.loadsAt_vmem h_S1024x512))
  Prog.lift (.store (cM kk) (chalfR j) (prodI a b) Finset.univ (View.stores_vmem h_S1x1024x512 ((cM_whole kk).storeExact_slice rfl _ (packed_chalf j)) (fun _ => rfl)) (.inl rfl))

/-- A column quarter of the local product. -/
def quarterF (kk : Fin 4) : KProg F PUnit := do
  startB kk 0
  startB kk 1
  tileF kk 0
  tileF kk 1
def quarterI (kk : Fin 4) : KProg F PUnit := do
  startB kk 0
  startB kk 1
  tileI kk 0
  tileI kk 1

/-- Start the copy of slot `ss` of this device to slot `rs` of device `n`; wait for it to have left; wait for the
    one coming in. -/
def sendC (n : Dev nD) (kk : Fin 4) (ss rs : Fin 2) : KProg F PUnit :=
  Prog.lift (.enqueueDma (slotM kk ss) (.remote (Dev.tc n) (slotM kk rs) (.dma (sdS kk ss)) (slot_shared kk rs)) (.dma (rvS kk rs)) (slot_words kk ss) (slot_words kk rs) ⟨⟨rfl, Or.inl rfl⟩, trivial⟩)
def waitSd (kk : Fin 4) (ss rs : Fin 2) : KProg F PUnit :=
  Prog.lift (.waitDma2 (sdS kk ss) (slotM kk rs) (slotM kk ss) (slot_words kk rs) (slot_words kk ss))
def waitRv (kk : Fin 4) (ss rs : Fin 2) : KProg F PUnit :=
  Prog.lift (.waitDma2 (rvS kk rs) (slotM kk ss) (slotM kk rs) (slot_words kk ss) (slot_words kk rs))

def getC (kk : Fin 4) (s : Fin 2) : KProg F (Vec F S1x1024x1024 .bf16) := Prog.lift (.load (cM kk) (slotR s).toLoadRect (View.loadsAt_vmem h_S1x1024x1024))
def getT (kk : Fin 4) : KProg F (Vec F S1024x1024 .f32) := Prog.lift (.load (tM kk) tR.toLoadRect (View.loadsAt_vmem h_S1024x1024))

/-- Add the local product to what came in. -/
def accum (kk : Fin 4) (rs : Fin 2) : KProg F PUnit := do
  let u ← getC kk rs
  let t ← getT kk
  let _ ← getC kk rs
  Prog.lift (.store (cM kk) (slotR rs) (accP u t) Finset.univ (View.stores_vmem h_S1x1024x1024 ((cM_whole kk).storeExact_slice rfl _ (packed_slot rs)) (fun _ => rfl)) (.inl rfl))

/-- One hop: what was sent has left, what was to come has come; the sender hears that its landing place is free; the
    local product is added; the next device's landing place is waited for, and the sum is sent on. -/
def hop (up down : Dev nD) (kk : Fin 4) (ss rs : Fin 2) : KProg F PUnit := do
  waitSd kk ss rs
  waitRv kk ss rs
  semSignalWord up (crS kk) 1#32
  accum kk rs
  semWaitWord (crS kk) 1#32
  sendC down kk rs ss

/-- The last hop: what came in is added to the local product, which is copied out. -/
def last (kk : Fin 4) : KProg F PUnit := do
  waitSd kk 0 1
  waitRv kk 0 1
  let t ← getT kk
  let u ← getC kk 1
  let _ ← getT kk
  Prog.lift (.store (tM kk) tR (finP t u) Finset.univ (View.stores_vmem_bits_univ h_S1024x1024 rfl) (.inl rfl))
  Prog.lift (.enqueueDma (tM kk) (.here (outM kk)) (.dma (oS kk)) (tM_whole kk).wordExact (View.wordExact_bits rfl) ⟨Or.inl rfl, trivial⟩)

def waitO (kk : Fin 4) : KProg F PUnit :=
  Prog.lift (.waitDma2 (oS kk) (tM kk) (outM kk) (tM_whole kk).wordExact (View.wordExact_bits rfl))

def barrier (p n : Dev nD) : KProg F PUnit := do
  semSignalWord p barS 1#32
  semSignalWord n barS 1#32
  semWaitWord barS 2#32

/-- The body, the devices and chunk offsets as the kernel computes them. -/
def body : KProg F PUnit := do
  let d ← Prog.lift .deviceId
  barrier ⟨k0_dev1 d, k0_dev1_lt d⟩ ⟨k0_dev2 d, k0_dev2_lt d⟩
  loadA (k0_off1 d) (k0_off1_inb d)
  quarterI 0
  sendC ⟨k0_dev3 d, k0_dev3_lt d⟩ 0 0 1
  loadA (k0_off2 d) (k0_off2_inb d)
  quarterI 2
  sendC ⟨k0_dev4 d, k0_dev4_lt d⟩ 2 0 1
  loadA (k0_off1 d) (k0_off1_inb d)
  quarterI 1
  sendC ⟨k0_dev5 d, k0_dev5_lt d⟩ 1 0 1
  loadA (k0_off2 d) (k0_off2_inb d)
  quarterI 3
  sendC ⟨k0_dev6 d, k0_dev6_lt d⟩ 3 0 1
  -- second round
  loadA (k0_off3 d 0#32) (k0_off3_inb d 0)
  quarterF 0
  hop ⟨k0_dev7 d, k0_dev7_lt d⟩ ⟨k0_dev8 d, k0_dev8_lt d⟩ 0 0 1
  quarterF 1
  hop ⟨k0_dev9 d, k0_dev9_lt d⟩ ⟨k0_dev10 d, k0_dev10_lt d⟩ 1 0 1
  quarterF 2
  hop ⟨k0_dev11 d, k0_dev11_lt d⟩ ⟨k0_dev12 d, k0_dev12_lt d⟩ 2 0 1
  quarterF 3
  hop ⟨k0_dev13 d, k0_dev13_lt d⟩ ⟨k0_dev14 d, k0_dev14_lt d⟩ 3 0 1
  loadA (k0_off3 d 1#32) (k0_off3_inb d 1)
  quarterF 0
  hop ⟨k0_dev15 d, k0_dev15_lt d⟩ ⟨k0_dev16 d, k0_dev16_lt d⟩ 0 1 0
  quarterF 1
  hop ⟨k0_dev17 d, k0_dev17_lt d⟩ ⟨k0_dev18 d, k0_dev18_lt d⟩ 1 1 0
  loadA (k0_off4 d) (k0_off4_inb d)
  quarterF 2
  hop ⟨k0_dev19 d, k0_dev19_lt d⟩ ⟨k0_dev20 d, k0_dev20_lt d⟩ 2 1 0
  quarterF 3
  hop ⟨k0_dev21 d, k0_dev21_lt d⟩ ⟨k0_dev22 d, k0_dev22_lt d⟩ 3 1 0
  loadA (k0_off3 d 2#32) (k0_off3_inb d 2)
  quarterF 0
  last 0
  quarterF 1
  last 1
  quarterF 2
  last 2
  quarterF 3
  last 3
  waitO 0
  waitO 1
  waitO 2
  waitO 3

/-- The generated body is these blocks, one after the other. -/
theorem body_eq (j : Fin cfg0.N) : bodyAt0 (F := F) j = body (F := F) := rfl

end Cert.KernelIdeal.Ring
end
-- ==== Proof.KernelIdeal.Plan.lean ====
/-
# The plan of the run

Four devices stand in a ring. Each of the four streams carries the partial sums of one quarter of the columns round
the ring: streams 0 and 1 to the left neighbour, streams 2 and 3 to the right one. This module names what every slot
holds at every hop, the semaphore cells, the rounds of each cell with what each round hands over, what every device
owes, and the order in which the cells may be waited for.

Send `t` (0, 1 or 2) of a stream leaves slot `t mod 2` and lands in the other slot of the next device. Its send cell
is that of the slot it leaves, its receive cell that of the slot it lands in, and it is round `t / 2` of both. The
credit cell of a stream tells a device that the next one's landing slot is free again; its rounds are 0 and 1, for
sends 1 and 2. The barrier hands over the landing slots of the sends 0.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Rounds
public import Idealize.ShloMosaic.Lib.ViewIndex

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the launch's copy, the rounds of the ring, the local copies' counters -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance : (ER (F := F)).LandsIn upEmb := by unfold ER; infer_instance

variable (m : (ℓ : Loc nD τ sig) → Buf (Elt F) ℓ) (ρ : Dev nD → PrngReg)

/-! ## The ring -/

def nxt (c : Dev nD) : Dev nD := ⟨(c.val + 1) % 4, Nat.mod_lt _ (by decide)⟩
def prv (c : Dev nD) : Dev nD := ⟨(c.val + 3) % 4, Nat.mod_lt _ (by decide)⟩

/-- The device before the next one is the device itself, -/
theorem prv_nxt (c : Dev nD) : prv (nxt c) = c := by revert c; decide
/-- and so is the one after the last one. -/
theorem nxt_prv (c : Dev nD) : nxt (prv c) = c := by revert c; decide

/-- Where stream `kk` sends to, and where it comes from. -/
def dn (kk : Fin 4) (c : Dev nD) : Dev nD := if kk.val < 2 then prv c else nxt c
def up (kk : Fin 4) (c : Dev nD) : Dev nD := if kk.val < 2 then nxt c else prv c

/-- Down the stream after up it is the device itself, -/
theorem dn_up (kk : Fin 4) (c : Dev nD) : dn kk (up kk c) = c := by revert kk c; decide
/-- and so is up after down. -/
theorem up_dn (kk : Fin 4) (c : Dev nD) : up kk (dn kk c) = c := by revert kk c; decide

def ringE : Dev nD ≃ Dev nD := ⟨nxt, prv, prv_nxt, nxt_prv⟩
def dnE (kk : Fin 4) : Dev nD ≃ Dev nD := ⟨dn kk, up kk, up_dn kk, dn_up kk⟩

/-! ## The values, read off the launch memory -/

/-- A chunk of `A` lies inside `A`. -/
theorem inb_chunk (q : Fin 4) (a : Fin 2) : (![1024 * q.val, 0] : Fin 2 → Nat) a + S1024x2048.size a ≤ S4096x2048.size a := by
  revert q a; decide

/-- Row chunk `q` of device `c`'s left operand. -/
def chunkV (c : Dev nD) (q : Fin 4) : Vec F S1024x2048 .f32 :=
  (chunkM ![1024 * q.val, 0] (inb_chunk q)).view.read (Elt F) (m ((c : Thread nD τ).loc main_arg0))

/-- A column tile of device `c`'s right operand, as the tile buffer's slot holds it. -/
def tileV (c : Dev nD) (kk : Fin 4) (j : Fin 2) : Vec F S1x2048x512 .f32 := fun y =>
  (tileM kk j).view.read (Elt F) (m ((c : Thread nD τ).loc main_arg1))
    ((Shape.reshapeEquiv squeezes_S1x2048x512_S2048x512.numel_eq).symm y)

/-- The half of a quarter that column `k` is in, and its place there. -/
def halfOf (k : ℕ) : Fin 2 := if k < 512 then 0 else 1
/-- A column's half starts at or before it, -/
theorem halfOf_le (k : ℕ) : 512 * (halfOf k).val ≤ k := by
  unfold halfOf; split
  · exact Nat.zero_le _
  · show 512 * 1 ≤ k; omega
/-- and ends after it. -/
theorem halfOf_lt (k : ℕ) (h : k < 1024) : k - 512 * (halfOf k).val < 512 := by
  unfold halfOf; split
  · show k - 512 * 0 < 512; omega
  · show k - 512 * 1 < 512; omega

def ix2 (x : S1024x1024.Idx) : S1024x512.Idx
  | ⟨0, _⟩ => x 0
  | ⟨1, _⟩ => ⟨(x 1).val - 512 * (halfOf (x 1).val).val, halfOf_lt _ (x 1).isLt⟩
def ix3 (x : S1x1024x1024.Idx) : S1x1024x512.Idx
  | ⟨0, _⟩ => x 0
  | ⟨1, _⟩ => x 1
  | ⟨2, _⟩ => ⟨(x 2).val - 512 * (halfOf (x 2).val).val, halfOf_lt _ (x 2).isLt⟩

/-- Device `c`'s product of row chunk `q` and stream `kk`'s quarter of the columns: in single precision, and rounded. -/
def quarterV (c : Dev nD) (kk q : Fin 4) : Vec F S1024x1024 .f32 := fun x =>
  prodF (chunkV m c q) (tileV m c kk (halfOf (x 1).val)) (ix2 x)
def initV (c : Dev nD) (kk q : Fin 4) : Vec F S1x1024x1024 .bf16 := fun x =>
  prodI (chunkV m c q) (tileV m c kk (halfOf (x 2).val)) (ix3 x)

/-- The row chunk device `c` adds to stream `kk` at send `t`. -/
def chunk (kk : Fin 4) (t : ℕ) (c : Dev nD) : Fin 4 :=
  ⟨(c.val + (if kk.val < 2 then 1 + t else 3 + 3 * t)) % 4, Nat.mod_lt _ (by decide)⟩

/-- What device `c` sends at send `t` of stream `kk`. -/
def chain (kk : Fin 4) : ℕ → Dev nD → Vec F S1x1024x1024 .bf16
  | 0, c => initV m c kk (chunk kk 0 c)
  | t + 1, c => accP (chain kk t (up kk c)) (quarterV m c kk (chunk kk (t + 1) c))

/-- Stream `kk`'s quarter of device `c`'s result. -/
def finalV (kk : Fin 4) (c : Dev nD) : Vec F S1024x1024 .f32 :=
  finP (quarterV m c kk (chunk kk 3 c)) (chain m kk 2 (up kk c))

/-! ## The buffers' contents -/

/-- Slot `s` of stream `kk`'s communication buffer, held. -/
abbrev slotV (kk : Fin 4) (s : Fin 2) : View sig .tc .vmem S1x1024x1024 .bf16 := (cM kk).view.slice (slotR s)
abbrev cLoc (kk : Fin 4) (c : Dev nD) : Loc nD τ sig := (cM kk).view.loc (c : Thread nD τ)
def slotPts (c : Dev nD) (kk : Fin 4) (s : Fin 2) (f : Buf (Elt F) (cLoc kk c)) : sProp 𝕄 :=
  cLoc kk c ↦[(slotM kk s).view.set]{fullShare} f
/-- Slot `s` holds `v`; it holds something. -/
def slotIs (c : Dev nD) (kk : Fin 4) (s : Fin 2) (v : Vec F S1x1024x1024 .bf16) : sProp 𝕄 :=
  iprop(∃ f : Buf (Elt F) (cLoc kk c), ⌜(slotV kk s).read (Elt F) f = v⌝ ∗ slotPts c kk s f)
def slotAny (c : Dev nD) (kk : Fin 4) (s : Fin 2) : sProp 𝕄 := iprop(∃ f : Buf (Elt F) (cLoc kk c), slotPts c kk s f)

omit [FloatOps F] in
instance slotPts_storable (c : Dev nD) (kk : Fin 4) (s : Fin 2) (f) : BI.Storable (upEmb : UEmb _ 𝕄) (slotPts (F := F) c kk s f) := by
  unfold slotPts; infer_instance
omit [FloatOps F] in
instance slotIs_storable (c : Dev nD) (kk : Fin 4) (s : Fin 2) (v) : BI.Storable (upEmb : UEmb _ 𝕄) (slotIs (F := F) c kk s v) := by
  unfold slotIs; infer_instance
omit [FloatOps F] in
instance slotAny_storable (c : Dev nD) (kk : Fin 4) (s : Fin 2) : BI.Storable (upEmb : UEmb _ 𝕄) (slotAny (F := F) c kk s) := by
  unfold slotAny; infer_instance

/-! ## The cells -/

/-- The remote cells of a stream: credit, send from slot `s`, receive into slot `s`. -/
inductive Role where
  | cr | sd (s : Fin 2) | rv (s : Fin 2)
  deriving DecidableEq

instance : Fintype Role := ⟨{.cr, .sd 0, .sd 1, .rv 0, .rv 1}, by rintro (_ | s | s) <;> (try revert s) <;> decide⟩

/-- The cells of the ring: the barrier, and every stream's. -/
abbrev Cl : Type := Unit ⊕ (Fin 4 × Role)
abbrev bar : Cl := .inl ()
abbrev st (kk : Fin 4) (r : Role) : Cl := .inr (kk, r)

abbrev rsem (kk : Fin 4) : Role → SemLoc sig
  | .cr => .reg (crS kk) | .sd s => .dma (sdS kk s) | .rv s => .dma (rvS kk s)
abbrev ksem : Cl → SemLoc sig
  | .inl _ => .reg barS
  | .inr p => rsem p.1 p.2

/-- Different cells of a device are different semaphores. -/
theorem ksem_inj : Function.Injective ksem := by decide +kernel

/-- The ring's cell at a semaphore, if it is one. -/
def kindOf (sm : SemLoc sig) : Option Cl := if h : ∃ k, ksem k = sm then some h.choose else none
/-- The cell of a cell's semaphore is that cell, -/
theorem kindOf_ksem (k : Cl) : kindOf (ksem k) = some k := by
  have h : ∃ k', ksem k' = ksem k := ⟨k, rfl⟩
  unfold kindOf; rw [dif_pos h, ksem_inj h.choose_spec]
/-- and a semaphore that is no cell's has none. -/
theorem kindOf_none {sm : SemLoc sig} (h : ∀ k, ksem k ≠ sm) : kindOf sm = none := dif_neg fun ⟨k, hk⟩ => h k hk

abbrev kcell (c : Dev nD) (k : Cl) : GSem nD τ sig := ((c : Thread nD τ), ksem k)

/-- The credit of one slot's copy. -/
def N : ℕ := (slotM 0 0).view.dmaCredit
/-- Every slot is as large as every other. -/
theorem N_eq (kk : Fin 4) (s : Fin 2) : (slotM kk s).view.dmaCredit = N := by
  unfold N
  match kk, s with
  | 0, _ => rfl
  | 1, _ => rfl
  | 2, _ => rfl
  | 3, _ => rfl
/-- A slot is not empty. -/
theorem N_pos : 0 < N := View.dmaCredit_pos _ (by decide)

/-! ## The schedule -/

/-- The slot a send leaves. -/
def sl (t : ℕ) : Fin 2 := ⟨t % 2, Nat.mod_lt _ (by decide)⟩

/-- The rounds of a cell; the duties of a round; the units of a duty. -/
def roundsR : Role → ℕ
  | .cr => 2
  | .sd s => if s = 0 then 2 else 1
  | .rv s => if s = 0 then 1 else 2
def rounds : Cl → ℕ
  | .inl _ => 1
  | .inr p => roundsR p.2
def dutySet : Cl → Finset Bool
  | .inl _ => Finset.univ
  | .inr _ => {false}
def dutiesK (k : Cl) (r : ℕ) : Finset Bool := if r < rounds k then dutySet k else ∅
def amountK : Cl → ℕ
  | .inl _ => 1
  | .inr (_, .cr) => 1
  | .inr (_, .sd _) => N
  | .inr (_, .rv _) => N

/-- Every duty pays something. -/
theorem amountK_pos (k : Cl) : 0 < amountK k := by
  rcases k with _ | ⟨_, _ | _ | _⟩
  exacts [Nat.one_pos, Nat.one_pos, N_pos, N_pos]

/-- The send that lands in slot `s` in round `r`. -/
def landT (s : Fin 2) (r : ℕ) : ℕ := 2 * r + (1 - s.val)

/-- What a round of device `c`'s cell hands over: the barrier, each neighbour's landing slots; a send cell, the slot
    that was read; a receive cell, the slot with what came in; the credit cell, the next device's landing slot. -/
def payK (c : Dev nD) (k : Cl) (r : ℕ) (d : Bool) : sProp 𝕄 :=
  match k with
  | .inl _ => if d then iprop(slotAny (nxt c) 2 1 ∗ slotAny (nxt c) 3 1) else iprop(slotAny (prv c) 0 1 ∗ slotAny (prv c) 1 1)
  | .inr (kk, .sd s) => slotIs c kk s (chain m kk (2 * r + s.val) c)
  | .inr (kk, .rv s) => iprop(slotIs c kk s (chain m kk (landT s r) (up kk c)) ∗ reached ER (kcell (up kk c) (st kk .cr)) (landT s r))
  | .inr (kk, .cr) => iprop(slotAny (dn kk c) kk (sl r) ∗ reached ER (kcell (dn kk c) (st kk (.rv (sl r)))) ((r + 1) / 2))

instance payK_storable (c : Dev nD) (k : Cl) (r : ℕ) (d : Bool) : BI.Storable (upEmb : UEmb _ 𝕄) (payK m c k r d) := by
  rcases k with _ | ⟨kk, _ | s | s⟩
  · cases d <;> (dsimp only [payK]; split <;> infer_instance)
  all_goals dsimp only [payK]; infer_instance

/-- The ring's schedule. -/
def sched : Rounds.Schedule (GSem nD τ sig) Bool 𝕄 where
  duties g r := if g.1.2 = .tc then (match kindOf g.2 with | some k => dutiesK k r | none => ∅) else ∅
  amount g _ _ := match kindOf g.2 with | some k => amountK k | none => 1
  payload g r d := match kindOf g.2 with | some k => payK m g.1.1 k r d | none => iprop(emp)
  amount_pos g _ _ _ := by
    split
    · exact amountK_pos _
    · exact Nat.one_pos

instance sched_storable (g : GSem nD τ sig) (r : ℕ) (d : Bool) : BI.Storable (upEmb : UEmb _ 𝕄) ((sched m).payload g r d) := by
  dsimp only [sched]; split <;> infer_instance

section Sched
variable (c : Dev nD) (k : Cl) (r : ℕ)

/-- The schedule's duties at a device's cell, -/
theorem sched_duties : (sched m).duties (kcell c k) r = dutiesK k r := by
  dsimp only [sched]; rw [if_pos rfl, kindOf_ksem]
/-- what each of them pays, -/
theorem sched_amount (d : Bool) : (sched m).amount (kcell c k) r d = amountK k := by dsimp only [sched]; rw [kindOf_ksem]
/-- and what it hands over. -/
theorem sched_payload (d : Bool) : (sched m).payload (kcell c k) r d = payK m c k r d := by dsimp only [sched]; rw [kindOf_ksem]
/-- After its last round a cell has no duty. -/
theorem sched_later (r : ℕ) (h : rounds k ≤ r) : (sched m).duties (kcell c k) r = ∅ := by
  rw [sched_duties]; exact if_neg (by omega)

/-- A stream cell's round has one duty. -/
theorem duties_st {kk : Fin 4} {ρ : Role} (h : r < roundsR ρ) : (sched m).duties (kcell c (st kk ρ)) r = {false} := by
  rw [sched_duties]; exact if_pos h
/-- The barrier has both neighbours' duties, -/
theorem duties_bar : (sched m).duties (kcell c bar) 0 = Finset.univ := by rw [sched_duties]; rfl
/-- A stream's cell expects one payment in each of its rounds, -/
theorem expect_st {kk : Fin 4} {ρ : Role} (h : r < roundsR ρ) : (sched m).expect (kcell c (st kk ρ)) r = amountK (st kk ρ) := by
  unfold Schedule.expect Schedule.amountOf; rw [duties_st m c r h, Finset.sum_singleton, sched_amount]
/-- and the barrier two. -/
theorem expect_bar : (sched m).expect (kcell c bar) 0 = 2 := by
  unfold Schedule.expect Schedule.amountOf
  rw [duties_bar, Finset.sum_congr rfl fun d _ => sched_amount m c bar 0 d, Finset.sum_const, Finset.card_univ, Fintype.card_bool]; rfl
/-- What is handed over when a stream cell's round ends. -/
theorem rest_st {kk : Fin 4} {ρ : Role} (h : r < roundsR ρ) :
    bigSep ((sched m).duties (kcell c (st kk ρ)) r \ ∅) (fun d => (sched m).payload (kcell c (st kk ρ)) r d) = payK m c (st kk ρ) r false := by
  rw [Finset.sdiff_empty, duties_st m c r h, bigSep_singleton, sched_payload]
/-- What the barrier hands over, written out. -/
theorem rest_bar : bigSep ((sched m).duties (kcell c bar) 0 \ ∅) (fun d => (sched m).payload (kcell c bar) 0 d)
    = iprop(payK m c bar 0 false ∗ payK m c bar 0 true) := by
  rw [Finset.sdiff_empty, duties_bar, bigSep_univ_eq_bigSepL [false, true] (by decide) (by decide), bigSepL_cons_cons, bigSepL_singleton,
    sched_payload, sched_payload]
  rfl
end Sched

/-! ## What every device owes, in the order it pays -/

/-- A debt: a cell of a neighbour, its round, the duty there. -/
abbrev Due : Type := Cl × ℕ × Bool
/-- Whose cell a debt of device `c` is. -/
def tgt (c : Dev nD) : Due → Dev nD
  | (.inl _, _, d) => if d then prv c else nxt c
  | (.inr (kk, .cr), _) => up kk c
  | (.inr (kk, .rv _), _) => dn kk c
  | (.inr (_, .sd _), _) => c

abbrev hopDues (kk : Fin 4) (t : ℕ) : List Due := [(st kk .cr, t, false), (st kk (.rv (sl t)), (t + 1) / 2, false)]
/-- The dues left when `n` streams have their hop of the third round before them; of the second round. -/
def left2 : ℕ → List Due
  | 0 => []
  | 1 => hopDues 3 1
  | 2 => hopDues 2 1 ++ hopDues 3 1
  | 3 => hopDues 1 1 ++ (hopDues 2 1 ++ hopDues 3 1)
  | _ => hopDues 0 1 ++ (hopDues 1 1 ++ (hopDues 2 1 ++ hopDues 3 1))
def left1 : ℕ → List Due
  | 0 => left2 4
  | 1 => hopDues 3 0 ++ left2 4
  | 2 => hopDues 2 0 ++ (hopDues 3 0 ++ left2 4)
  | 3 => hopDues 1 0 ++ (hopDues 2 0 ++ (hopDues 3 0 ++ left2 4))
  | _ => hopDues 0 0 ++ (hopDues 1 0 ++ (hopDues 2 0 ++ (hopDues 3 0 ++ left2 4)))
/-- The dues left when `n` first sends are still to come; all of them. -/
def left0 : ℕ → List Due
  | 0 => left1 4
  | 1 => (st 3 (.rv 1), 0, false) :: left1 4
  | 2 => (st 1 (.rv 1), 0, false) :: (st 3 (.rv 1), 0, false) :: left1 4
  | 3 => (st 2 (.rv 1), 0, false) :: (st 1 (.rv 1), 0, false) :: (st 3 (.rv 1), 0, false) :: left1 4
  | _ => (st 0 (.rv 1), 0, false) :: (st 2 (.rv 1), 0, false) :: (st 1 (.rv 1), 0, false) :: (st 3 (.rv 1), 0, false) :: left1 4
def dues : List Due := (bar, 0, true) :: (bar, 0, false) :: left0 4

/-- The tallies of a list of debts. -/
def owedOf (c : Dev nD) : List Due → CellTallies nD τ sig ℕ
  | [] => 0
  | d :: l => owedOf c l + tallyAt (kcell (tgt c d) d.1) d.2.1 (amountK d.1)

/-- Where a device owes something, one of its dues says so. -/
theorem owedOf_pos {c : Dev nD} {l : List Due} {g : GSem nD τ sig} {i : ℕ} (h : 0 < owedOf c l g i) :
    ∃ d ∈ l, g = kcell (tgt c d) d.1 ∧ i = d.2.1 := by
  induction l with
  | nil => exact absurd h (Nat.lt_irrefl 0)
  | cons d l ih =>
    unfold owedOf at h
    rw [Pi.add_apply, Finsupp.add_apply, tallyAt_apply] at h
    by_cases hd : g = kcell (tgt c d) d.1 ∧ i = d.2.1
    · exact ⟨d, List.mem_cons_self, hd⟩
    · rw [if_neg hd] at h
      obtain ⟨d', hm, e⟩ := ih h
      exact ⟨d', List.mem_cons_of_mem _ hm, e⟩

/-- Device `c` owes the debts `l`. -/
def Ow (c : Dev nD) (l : List Due) : sProp 𝕄 := iprop(∃ W : Waits sig ℕ, owes (c : Thread nD τ) (owedOf c l) W)

/-! ## The order of the waits -/

def L (g : GSem nD τ sig) : Finset ℕ := if g.1.2 = .tc then Finset.range 2 else ∅
/-- Only the devices' own threads have levels, -/
theorem L_of_ne (g : GSem nD τ sig) (h : g.1.2 ≠ .tc) : L g = ∅ := if_neg h
/-- and those have the two rounds'. -/
theorem L_tc (c : Dev nD) (sm : SemLoc sig) : L ((c : Thread nD τ), sm) = Finset.range 2 := if_pos rfl

/-- The place of a cell's round in the order: the barrier; then the sends 0; then hop by hop and stream by stream,
    credit before copy. What is waited for without anyone else owing it comes before all. -/
def lvK : Cl → ℕ → ℕ
  | .inl _, _ => 1
  | .inr (kk, .cr), r => if r = 0 then 3 + 2 * kk.val else 11 + 2 * kk.val
  | .inr (kk, .rv s), r => if s = 1 then (if r = 0 then 2 else 12 + 2 * kk.val) else 4 + 2 * kk.val
  | .inr (_, .sd _), _ => 0
def lv (g : GSem nD τ sig) (i : ℕ) : ℕ := match kindOf g.2 with | some k => lvK k i | none => 0

/-- The level of a device's cell is the cell's. -/
theorem lv_kcell (c : Dev nD) (k : Cl) (i : ℕ) : lv (kcell c k) i = lvK k i := by unfold lv; rw [kindOf_ksem]

/-- A list of debts that all come after level `b`. -/
def After (b : ℕ) (l : List Due) : Prop := ∀ d ∈ l, d.2.1 < 2 ∧ b < lvK d.1 d.2.1
instance (b : ℕ) (l : List Due) : Decidable (After b l) := by unfold After; infer_instance

/-- A cell may be waited for while the debts left all come after it. -/
theorem mayWait_of (c : Dev nD) (sm : SemLoc sig) (i : ℕ) (hi : i < 2) (l : List Due) (b : ℕ) (hb : lv ((c : Thread nD τ), sm) i = b)
    (h : After b l) : (levAts L lv : sProp 𝕄) ⊢ MayWait (c : Thread nD τ) sm i (owedOf c l) :=
  MayOwe.of_cut (L := L) (lev := lv) b (fun p hp => by rw [Finset.mem_singleton.mp hp, L_tc]; exact Finset.mem_range.mpr hi)
    (fun g u hg => by
      obtain ⟨d, hd, rfl, rfl⟩ := owedOf_pos hg
      rw [L_tc]; exact Finset.mem_range.mpr (h d hd).1)
    (fun p hp => by rw [Finset.mem_singleton.mp hp]; exact le_of_eq hb)
    (fun g u hg => by
      obtain ⟨d, hd, rfl, rfl⟩ := owedOf_pos hg
      rw [lv_kcell]; exact (h d hd).2)

/-- A device may wait on a cell if all that it still owes lies above the cell's level. -/
theorem mayWait_cell (c : Dev nD) (k : Cl) (i : ℕ) (hi : i < 2) (l : List Due) (h : After (lvK k i) l) :
    (levAts L lv : sProp 𝕄) ⊢ MayWait (c : Thread nD τ) (ksem k) i (owedOf c l) :=
  mayWait_of c (ksem k) i hi l _ (lv_kcell c k i) h
/-- A device may wait for its own copies if all that it still owes lies above level 0. -/
theorem mayWait_local (c : Dev nD) (sm : SemLoc sig) (hs : ∀ k, ksem k ≠ sm) (l : List Due) (h : After 0 l) :
    (levAts L lv : sProp 𝕄) ⊢ MayWait (c : Thread nD τ) sm 0 (owedOf c l) :=
  mayWait_of c sm 0 (by decide) l 0 (by unfold lv; rw [kindOf_none hs]) h

/-- All the dues lie above level 0. -/
theorem dues_after : After 0 dues := by decide

end Cert.KernelIdeal.Ring
end
-- ==== Proof.KernelIdeal.Local.lean ====
/-
# The blocks of the body that a device runs by itself

Loading a row chunk of the left operand, loading the two column tiles of the right one while the first is in flight,
multiplying, and storing into the temporary or into slot 0 of the communication buffer. Every theorem says what a
block needs and what it gives back, for any stream and tile.
-/
module

public import proofs.«01_k».proof.Proof.KernelIdeal.Plan
public import Idealize.ShloMosaic.Lib.Pipeline.ValueKit.Geometry
public import Idealize.ShloMosaic.Lib.VecWindow

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

abbrev 𝒱₀ : Variants := Variants.none
/-- Running `p` on device `c` ends in `Q`. -/
abbrev Runs (c : Dev nD) {α : Type} (p : KProg F α) (Q : α → sProp 𝕄) : sProp 𝕄 :=
  wp frame (wpE (defs₀ (F := F)) 𝒱₀ (c : Thread nD τ) none) Set.univ p Q

abbrev EC : UEmb Counters (MT nD τ sig ℕ (Elt F) ℕ UU ℕ) := countersEmb (U := UU)

/-- No cell of the ring is the semaphore of the copies of `A`, -/
theorem aS_local : ∀ k, ksem k ≠ .dma aS := by decide +kernel
/-- nor one of those of `B`, -/
theorem bS_local : ∀ (j : Fin 2) k, ksem k ≠ .dma (bS j) := by decide +kernel
/-- nor one of those of the copies out. -/
theorem oS_local : ∀ (kk : Fin 4) k, ksem k ≠ .dma (oS kk) := by decide +kernel

/-! ## The buffers -/

/-- The left operand, unchanged; its row chunk as loaded. -/
def xPts (c : Dev nD) : sProp 𝕄 := ((c : Thread nD τ).loc main_arg0) ↦{fullShare} m ((c : Thread nD τ).loc main_arg0)
def aPts (c : Dev nD) (a : Vec F S1024x2048 .f32) : sProp 𝕄 := ((c : Thread nD τ).loc cc0_scratch8) ↦{fullShare} a

/-- Half of the right operand's share for each of the two tiles in flight. -/
def shr : Fin 2 → PosShare TreeShare | 0 => fullShare.left | 1 => fullShare.right
def yPts (c : Dev nD) (j : Fin 2) : sProp 𝕄 := ((c : Thread nD τ).loc main_arg1) ↦{shr j} m ((c : Thread nD τ).loc main_arg1)

abbrev bslotV (j : Fin 2) : View sig .tc .vmem S1x2048x512 .f32 := bM.view.slice (bslotR j)
abbrev bLoc (c : Dev nD) : Loc nD τ sig := bM.view.loc (c : Thread nD τ)
def bslotPts (c : Dev nD) (j : Fin 2) (f : Buf (Elt F) (bLoc c)) : sProp 𝕄 := bLoc c ↦[(bslotM j).view.set]{fullShare} f

/-- What a tile's load needs and gives back. -/
def bRes (c : Dev nD) (j : Fin 2) : sProp 𝕄 :=
  iprop(yPts m c j ∗ (∃ f, bslotPts c j f) ∗ semVal ((c : Thread nD τ), SemLoc.dma (bS j)) 0)
/-- Everything a device's own multiplications use, the loaded row chunk being `a`. -/
def Env (c : Dev nD) (a : Vec F S1024x2048 .f32) : sProp 𝕄 :=
  iprop(xPts m c ∗ aPts c a ∗ semVal ((c : Thread nD τ), SemLoc.dma aS) 0 ∗ bRes m c 0 ∗ bRes m c 1)

abbrev tLoc (kk : Fin 4) (c : Dev nD) : Loc nD τ sig := (tM kk).view.loc (c : Thread nD τ)
def tPts (c : Dev nD) (kk : Fin 4) (f : Buf (Elt F) (tLoc kk c)) : sProp 𝕄 := tLoc kk c ↦[(tM kk).view.set]{fullShare} f
/-- The temporary agrees with `v` on the columns below `n`; on all of them; it holds anything. -/
def tUpTo (c : Dev nD) (kk : Fin 4) (n : ℕ) (v : Vec F S1024x1024 .f32) : sProp 𝕄 :=
  iprop(∃ f : Buf (Elt F) (tLoc kk c), ⌜∀ x : S1024x1024.Idx, (x 1).val < n → (tM kk).view.read (Elt F) f x = v x⌝ ∗ tPts c kk f)
def tIs (c : Dev nD) (kk : Fin 4) (v : Vec F S1024x1024 .f32) : sProp 𝕄 :=
  iprop(∃ f : Buf (Elt F) (tLoc kk c), ⌜(tM kk).view.read (Elt F) f = v⌝ ∗ tPts c kk f)
def tAny (c : Dev nD) (kk : Fin 4) : sProp 𝕄 := iprop(∃ f : Buf (Elt F) (tLoc kk c), tPts c kk f)
/-- Slot 0 agrees with `v` on the columns below `n`. -/
def sUpTo (c : Dev nD) (kk : Fin 4) (n : ℕ) (v : Vec F S1x1024x1024 .bf16) : sProp 𝕄 :=
  iprop(∃ f : Buf (Elt F) (cLoc kk c), ⌜∀ x : S1x1024x1024.Idx, (x 2).val < n → (slotV kk 0).read (Elt F) f x = v x⌝ ∗ slotPts c kk 0 f)

omit [FloatOps F] in
/-- A temporary with any contents agrees with a value on no columns, -/
theorem tUpTo_zero (c : Dev nD) (kk : Fin 4) (v : Vec F S1024x1024 .f32) : tAny (F := F) c kk ⊢ tUpTo c kk (512 * (0 : Fin 2).val) v := by
  unfold tAny tUpTo
  iintro ⟨%f, H⟩; iexists f
  isplitr; · ipureintro; exact fun x h => absurd h (Nat.not_lt_zero _)
  iexact H
omit [FloatOps F] in
/-- and one that agrees on all columns holds the value. -/
theorem tUpTo_all (c : Dev nD) (kk : Fin 4) (v : Vec F S1024x1024 .f32) : tUpTo (F := F) c kk (512 * (1 : Fin 2).val + 512) v ⊢ tIs c kk v := by
  unfold tIs tUpTo
  iintro ⟨%f, %h, H⟩; iexists f
  isplitr; · ipureintro; exact funext fun x => h x (x 1).isLt
  iexact H
omit [FloatOps F] in
/-- A temporary that holds a value holds something. -/
theorem tIs_any (c : Dev nD) (kk : Fin 4) (v : Vec F S1024x1024 .f32) : tIs (F := F) c kk v ⊢ tAny c kk := by
  unfold tIs tAny
  iintro ⟨%f, -, H⟩; iexists f; iexact H
omit [FloatOps F] in
/-- A slot with any contents agrees with a value on no columns, -/
theorem sUpTo_zero (c : Dev nD) (kk : Fin 4) (v : Vec F S1x1024x1024 .bf16) : slotAny (F := F) c kk 0 ⊢ sUpTo c kk (512 * (0 : Fin 2).val) v := by
  unfold slotAny sUpTo
  iintro ⟨%f, H⟩; iexists f
  isplitr; · ipureintro; exact fun x h => absurd h (Nat.not_lt_zero _)
  iexact H
omit [FloatOps F] in
/-- and one that agrees on all columns holds the value. -/
theorem sUpTo_all (c : Dev nD) (kk : Fin 4) (v : Vec F S1x1024x1024 .bf16) :
    sUpTo (F := F) c kk (512 * (1 : Fin 2).val + 512) v ⊢ slotIs c kk 0 v := by
  unfold slotIs sUpTo
  iintro ⟨%f, %h, H⟩; iexists f
  isplitr; · ipureintro; exact funext fun x => h x (x 2).isLt
  iexact H
omit [FloatOps F] in
/-- A slot that holds a value holds something. -/
theorem slotIs_any (c : Dev nD) (kk : Fin 4) (s : Fin 2) (v : Vec F S1x1024x1024 .bf16) : slotIs (F := F) c kk s v ⊢ slotAny c kk s := by
  unfold slotIs slotAny
  iintro ⟨%f, -, H⟩; iexists f; iexact H

/-! ## Where a half lies -/

/-- An index whose column lies in a half is that half's index at its place in the half, -/
theorem half_emb (j : Fin 2) (x : S1024x1024.Idx) (h : halfOf (x 1).val = j) : (halfR j).emb (ix2 x) = x := by
  subst h
  have e := ValueKit.rect_emb_unit_val (s := S1024x1024) ![0, 512 * (halfOf (x 1).val).val] S1024x512.size (inb_half _) (ix2 x)
  refine funext fun a => Fin.ext ((e a).trans ?_)
  match a with
  | ⟨0, _⟩ => exact Nat.zero_add (x 0).val
  | ⟨1, _⟩ => exact Nat.add_sub_cancel' (halfOf_le (x 1).val)

/-- and a column before the half is not in it. -/
theorem not_half (j : Fin 2) (x : S1024x1024.Idx) (h : (x 1).val < 512 * j.val) : x ∉ (Finset.univ : Finset (halfR j).shape.Idx).map (halfR j).emb := by
  intro hx
  obtain ⟨y, -, e⟩ := Finset.mem_map.mp hx
  have := ValueKit.rect_emb_unit_val (s := S1024x1024) ![0, 512 * j.val] S1024x512.size (inb_half j) y 1
  rw [show (Rect.unit (s := S1024x1024) ![0, 512 * j.val] S1024x512.size (inb_half j)).emb y = x from e] at this
  have h2 : (![0, 512 * j.val] : Fin 2 → Nat) 1 = 512 * j.val := rfl
  omega

/-- The half that a column lies in is the one whose bounds it satisfies. -/
theorem halfOf_eq (j : Fin 2) (k : ℕ) (h1 : 512 * j.val ≤ k) (h2 : k < 512 * j.val + 512) : halfOf k = j := by
  unfold halfOf
  split
  · exact Fin.ext (show 0 = j.val by omega)
  · exact Fin.ext (show 1 = j.val by omega)

/-- The same for a slot: an index of it in a half is that half's index, -/
theorem chalf_emb (j : Fin 2) (x : S1x1024x1024.Idx) (h : halfOf (x 2).val = j) : (chalfR j).emb (ix3 x) = (slotR 0).emb x := by
  subst h
  have e := ValueKit.rect_emb_unit_val (s := S2x1024x1024) ![0, 0, 512 * (halfOf (x 2).val).val] S1x1024x512.size (inb_chalf _) (ix3 x)
  have e' := ValueKit.rect_emb_unit_val (s := S2x1024x1024) ![(0 : Fin 2).val, 0, 0] S1x1024x1024.size (inb_slot 0) x
  refine funext fun a => Fin.ext ((e a).trans ((e' a).trans ?_).symm)
  match a with
  | ⟨0, _⟩ => rfl
  | ⟨1, _⟩ => rfl
  | ⟨2, _⟩ => exact (Nat.zero_add (x 2).val).trans (Nat.add_sub_cancel' (halfOf_le (x 2).val)).symm

/-- a column before the half is not in it, -/
theorem not_chalf (j : Fin 2) (x : S1x1024x1024.Idx) (h : (x 2).val < 512 * j.val) :
    (slotR 0).emb x ∉ (Finset.univ : Finset (chalfR j).shape.Idx).map (chalfR j).emb := by
  intro hx
  obtain ⟨y, -, e⟩ := Finset.mem_map.mp hx
  have e1 := ValueKit.rect_emb_unit_val (s := S2x1024x1024) ![0, 0, 512 * j.val] S1x1024x512.size (inb_chalf j) y 2
  have e2 := ValueKit.rect_emb_unit_val (s := S2x1024x1024) ![(0 : Fin 2).val, 0, 0] S1x1024x1024.size (inb_slot 0) x 2
  have e3 : 512 * j.val + (y 2).val = 0 + (x 2).val := e1.symm.trans ((congrArg (fun z : S2x1024x1024.Idx => (z 2).val) e).trans e2)
  omega

/-- and a half of slot 0 lies in slot 0. -/
theorem chalf_sub (j : Fin 2) : (chalfR j).set ⊆ (slotR 0).set := fun i hi => by
  rw [Rect.mem_set_unit] at hi ⊢
  intro a
  have h := hi a
  match a with
  | ⟨0, _⟩ => exact h
  | ⟨1, _⟩ => exact h
  | ⟨2, _⟩ => exact ⟨Nat.zero_le _, lt_of_lt_of_eq (i 2).isLt (Nat.zero_add 1024).symm⟩

/-! ## The blocks -/

section Blocks
variable (c : Dev nD) (Q : PUnit → sProp (MT nD τ sig ℕ (Elt F) ℕ UU ℕ)) (l : List Due)

/-- Loading a row chunk. -/
theorem loadA_runs (hl : After 0 l) (q : Fin 4) (off : Fin 2 → Nat) (h : ∀ a, off a + S1024x2048.size a ≤ S4096x2048.size a) (ho : off = ![1024 * q.val, 0]) (a : Vec F S1024x2048 .f32) :
    iprop(levAts L lv ∗ Env m c a ∗ Ow c l)
      ⊢ iprop(((Env m c (chunkV m c q) ∗ Ow c l) -∗ Q ⟨⟩) -∗ Runs c (loadA off h) Q) := by
  subst ho
  unfold Runs loadA Env Ow
  simp only [Prog.lift, Prog.bind_op, Prog.bind_ret, Prog.pure_eq_ret]
  iintro ⟨#Hlev, ⟨Hx, Ha, Hs, Hb0, Hb1⟩, ⟨%W, HO⟩⟩ Hk
  unfold xPts
  icases (pointsTo_split_subset (ℓ := (c : Thread nD τ).loc main_arg0) (I := (chunkM ![1024 * q.val, 0] h).view.set) (Finset.subset_univ _)).1 $$ Hx with ⟨Hx1, Hx2⟩
  iapply (Transfers.wp_dmaLocal EC 𝒱₀ (c : Thread nD τ) none (src := chunkM ![1024 * q.val, 0] h) (dst := aM) (sm := .dma aS) (Sd := Finset.univ)
    0 (aM.view.dmaCredit) rfl (View.dmaCredit_pos _ (by decide)) (Finset.subset_univ _)) $$ [Hx1 Ha Hs]
  · isplitl [Hx1]; · iexact Hx1
    isplitl [Ha]; · unfold aPts; iexact Ha
    iexact Hs
  iintro Hf
  iapply (Transfers.wp_waitLocalO EC 𝒱₀ (c : Thread nD τ) none 0 (N := aM.view.dmaCredit) rfl) $$ [Hf HO]
  · isplitl [Hf]; · iexact Hf
    isplitl [HO]; · iexact HO
    iapply (mayWait_local c (.dma aS) aS_local l hl); iexact Hlev
  iintro ⟨⟨Ha, Hx1⟩, Hs, HO⟩
  rw [wp_ret]; imodintro
  iapply Hk
  isplitr [HO]
  · isplitl [Hx1 Hx2]
    · iapply (pointsTo_split_subset (ℓ := (c : Thread nD τ).loc main_arg0) (I := (chunkM ![1024 * q.val, 0] h).view.set) (Finset.subset_univ _)).2
      isplitl [Hx1] <;> iassumption
    isplitl [Ha]
    · unfold aPts
      rw [show ∀ fd, aM.view.write (Elt F) fd (ReadAs.same.apply ((chunkM ![1024 * q.val, 0] h).view.read (Elt F) (m ((c : Thread nD τ).loc main_arg0)))) Finset.univ = chunkV m c q
        from fun fd => View.write_whole_univ _ _ _]
      iexact Ha
    isplitl [Hs]; · iexact Hs
    isplitl [Hb0] <;> iassumption
  · iexists _; iexact HO

/-- A tile on its way: the copy in flight, and the part of the right operand it does not read. -/
def bFly (c : Dev nD) (kk : Fin 4) (j : Fin 2) : sProp 𝕄 :=
  iprop(∃ fd : Buf (Elt F) (bLoc c),
    Flight EC (c : Thread nD τ) (.dma (bS j)) 0 (bslotM j).view.dmaCredit
      iprop((bLoc c ↦[(bslotM j).view.set]{fullShare} (bslotM j).view.write (Elt F) fd
              (ReadAs.same.apply ((tileM kk j).view.read (Elt F) (m ((c : Thread nD τ).loc main_arg1)))) Finset.univ)
          ∗ (((c : Thread nD τ).loc main_arg1) ↦[(tileM kk j).view.set]{shr j} m ((c : Thread nD τ).loc main_arg1)))
      ∗ (((c : Thread nD τ).loc main_arg1) ↦[Finset.univ \ (tileM kk j).view.set]{shr j} m ((c : Thread nD τ).loc main_arg1)))

/-- A tile's slot of the tile buffer holds `b`; the tile's load is over. -/
def bDone (c : Dev nD) (j : Fin 2) (b : Vec F S1x2048x512 .f32) : sProp 𝕄 :=
  iprop(yPts m c j ∗ (∃ f : Buf (Elt F) (bLoc c), ⌜(bslotV j).read (Elt F) f = b⌝ ∗ bslotPts c j f) ∗ semVal ((c : Thread nD τ), SemLoc.dma (bS j)) 0)

/-- A slot for `B` with a tile in it may be used again. -/
theorem bDone_res (j : Fin 2) (b : Vec F S1x2048x512 .f32) : bDone m c j b ⊢ bRes m c j := by
  unfold bDone bRes
  iintro ⟨Hy, ⟨%f, -, Hf⟩, Hs⟩
  isplitl [Hy]; · iexact Hy
  isplitl [Hf]
  · iexists f; iexact Hf
  iexact Hs

omit [FloatOps F] in
/-- A slot for `B` into which a tile was copied reads as the tile. -/
theorem read_bslot (j : Fin 2) (f : (cc0_scratch9 : Ref sig .tc).ty.Contents (Elt F)) (w : S2048x512.Idx → Elt F .f32) :
    (bslotV j).read (Elt F) ((bslotM j).view.write (Elt F) f w Finset.univ)
      = fun y => w ((Shape.reshapeEquiv squeezes_S1x2048x512_S2048x512.numel_eq).symm y) := funext fun y => by
  have := View.read_write_reshape (Val := Elt F) (bslotV j) squeezes_S1x2048x512_S2048x512.numel_eq f w
    ((Shape.reshapeEquiv squeezes_S1x2048x512_S2048x512.numel_eq).symm y)
  rw [Equiv.apply_symm_apply] at this
  exact this

/-- Starting a tile's load. -/
theorem startB_runs (kk : Fin 4) (j : Fin 2) :
    bRes m c j ⊢ iprop((bFly m c kk j -∗ Q ⟨⟩) -∗ Runs c (startB kk j) Q) := by
  unfold Runs startB bRes yPts bslotPts
  simp only [Prog.lift]
  iintro ⟨Hy, ⟨%f, Hf⟩, Hs⟩ Hk
  icases (pointsTo_split_subset (ℓ := (c : Thread nD τ).loc main_arg1) (I := (tileM kk j).view.set) (Finset.subset_univ _)).1 $$ Hy with ⟨Hy1, Hy2⟩
  iapply (Transfers.wp_dmaLocal EC 𝒱₀ (c : Thread nD τ) none (src := tileM kk j) (dst := bslotM j) (sm := .dma (bS j)) (Sd := (bslotM j).view.set)
    0 ((bslotM j).view.dmaCredit) rfl (View.dmaCredit_pos _ (by decide)) (Finset.Subset.refl _)) $$ [Hy1 Hf Hs]
  · isplitl [Hy1]; · iexact Hy1
    isplitl [Hf]; · iexact Hf
    iexact Hs
  iintro Hfl
  rw [wp_ret]; imodintro
  iapply Hk
  unfold bFly
  iexists f
  isplitl [Hfl]; · iexact Hfl
  iexact Hy2

/-- Waiting for it. -/
theorem waitB_runs (hl : After 0 l) (kk : Fin 4) (j : Fin 2) :
    iprop(levAts L lv ∗ bFly m c kk j ∗ Ow c l)
      ⊢ iprop(((bDone m c j (tileV m c kk j) ∗ Ow c l) -∗ Q ⟨⟩) -∗ Runs c (waitB kk j) Q) := by
  unfold Runs waitB bFly Ow
  simp only [Prog.lift]
  iintro ⟨#Hlev, ⟨%fd, Hfl, Hy2⟩, ⟨%W, HO⟩⟩ Hk
  iapply (Transfers.wp_waitLocalO EC 𝒱₀ (c : Thread nD τ) none 0 (N := (bslotM j).view.dmaCredit) rfl) $$ [Hfl HO]
  · isplitl [Hfl]; · iexact Hfl
    isplitl [HO]; · iexact HO
    iapply (mayWait_local c (.dma (bS j)) (bS_local j) l hl); iexact Hlev
  iintro ⟨⟨Hf, Hy1⟩, Hs, HO⟩
  rw [wp_ret]; imodintro
  iapply Hk
  isplitr [HO]
  · unfold bDone yPts bslotPts
    isplitl [Hy1 Hy2]
    · iapply (pointsTo_split_subset (ℓ := (c : Thread nD τ).loc main_arg1) (I := (tileM kk j).view.set) (Finset.subset_univ _)).2
      isplitl [Hy1] <;> iassumption
    isplitl [Hf]
    · iexists _
      isplitr
      rotate_left
      · iexact Hf
      · ipureintro; exact read_bslot j fd _
    iexact Hs
  · iexists _; iexact HO

/-- Reading the loaded row chunk, and a loaded tile. -/
theorem getA_runs (Q : Vec F S1024x2048 .f32 → sProp 𝕄) (a : Vec F S1024x2048 .f32) :
    aPts c a ⊢ iprop((aPts c a -∗ Q a) -∗ Runs c getA Q) := by
  unfold Runs getA aPts
  simp only [Prog.lift]
  iintro Ha Hk
  iapply (wp_load 𝒱₀ (c : Thread nD τ) none Set.univ (m := aM) (Finset.subset_univ _)) $$ Ha; iintro Ha
  rw [show aM.view.readAt (Elt F) aR.toLoadRect a = a from View.readAt_full aM.view a _, wp_ret]; imodintro
  iapply Hk; iexact Ha

/-- Reading a slot for `B` gives its tile and changes nothing. -/
theorem getB_runs (Q : Vec F S1x2048x512 .f32 → sProp 𝕄) (j : Fin 2) (b : Vec F S1x2048x512 .f32) :
    bDone m c j b ⊢ iprop((bDone m c j b -∗ Q b) -∗ Runs c (getB j) Q) := by
  unfold Runs getB bDone bslotPts
  simp only [Prog.lift]
  iintro ⟨Hy, ⟨%f, %hf, Hf⟩, Hs⟩ Hk
  iapply (wp_load 𝒱₀ (c : Thread nD τ) none Set.univ (m := bM) (S := (bslotM j).view.set) (by
    rw [show (bslotM j).view.set = (bslotV j).set from View.set_reshape _ _, View.set_slice]; exact Finset.Subset.refl _)) $$ Hf
  iintro Hf
  rw [show bM.view.readAt (Elt F) (bslotR j).toLoadRect f = b from hf, wp_ret]; imodintro
  iapply Hk
  isplitl [Hy]; · iexact Hy
  isplitl [Hf]
  · iexists f
    isplitr; · ipureintro; exact hf
    iexact Hf
  iexact Hs

omit [FloatOps F] in
/-- Storing half `j` of a temporary that is right below the half makes it right up to the half's end. -/
theorem half_store (kk : Fin 4) (j : Fin 2) (v : Vec F S1024x1024 .f32) (w : Vec F S1024x512 .f32) (f : (tM kk).view.ty.Contents (Elt F))
    (hw : ∀ x : S1024x1024.Idx, halfOf (x 1).val = j → w (ix2 x) = v x)
    (h : ∀ x : S1024x1024.Idx, (x 1).val < 512 * j.val → (tM kk).view.read (Elt F) f x = v x)
    (x : S1024x1024.Idx) (hx : (x 1).val < 512 * j.val + 512) :
    (tM kk).view.read (Elt F) (((tM kk).view.slice (halfR j)).write (Elt F) f w Finset.univ) x = v x := by
  by_cases h0 : (x 1).val < 512 * j.val
  · rw [View.read_slice_write_of_not_mem (halfR j) f w Finset.univ (not_half j x h0)]
    exact h x h0
  · have hj := halfOf_eq j (x 1).val (Nat.le_of_not_lt h0) hx
    have e := View.read_slice_write_emb (v := (tM kk).view) (halfR j) f w (Finset.mem_univ (ix2 x))
    rw [half_emb j x hj] at e
    rw [e]; exact hw x hj

/-- A tile of a local product. -/
theorem tileF_runs (hl : After 0 l) (kk : Fin 4) (j : Fin 2) (q : Fin 4) :
    iprop(levAts L lv ∗ bFly m c kk j ∗ aPts c (chunkV m c q) ∗ tUpTo c kk (512 * j.val) (quarterV m c kk q) ∗ Ow c l)
      ⊢ iprop(((bRes m c j ∗ aPts c (chunkV m c q) ∗ tUpTo c kk (512 * j.val + 512) (quarterV m c kk q) ∗ Ow c l) -∗ Q ⟨⟩)
          -∗ Runs c (tileF kk j) Q) := by
  unfold Runs tileF
  simp only [wp_bind]
  iintro ⟨#Hlev, Hfly, Ha, Ht, HO⟩ Hk
  iapply (waitB_runs m c _ l hl kk j) $$ [Hfly HO]
  · isplitr; · iexact Hlev
    isplitl [Hfly] <;> iassumption
  iintro ⟨Hb, HO⟩
  iapply (getA_runs c _ (chunkV m c q)) $$ Ha
  iintro Ha
  iapply (getB_runs m c _ j (tileV m c kk j)) $$ Hb
  iintro Hb
  simp only [Prog.lift]
  unfold tUpTo tPts
  icases Ht with ⟨%f, %hf, Ht⟩
  iapply (wp_load 𝒱₀ (c : Thread nD τ) none Set.univ (m := tM kk) (View.setOn_subset_set _ _)) $$ Ht
  iintro Ht
  rw [wp_ret]; imodintro
  iapply (wp_store 𝒱₀ (c : Thread nD τ) none Set.univ (m := tM kk) (r := halfR j) (Mk := Finset.univ) (by
    rw [View.setOn_univ, View.set_slice]; exact View.setOn_subset_set _ _)) $$ Ht
  iintro Ht
  rw [wp_ret]; imodintro
  iapply Hk
  isplitl [Hb]; · iapply (bDone_res m c j _) $$ Hb
  isplitl [Ha]; · iexact Ha
  isplitl [Ht]
  · iexists _
    isplitr
    rotate_left
    · iexact Ht
    · ipureintro
      exact half_store kk j _ _ f (fun x hx => by subst hx; rfl) hf
  iexact HO

/-- A column quarter of a local product. -/
theorem quarterF_runs (hl : After 0 l) (kk : Fin 4) (q : Fin 4) :
    iprop(levAts L lv ∗ Env m c (chunkV m c q) ∗ tAny c kk ∗ Ow c l)
      ⊢ iprop(((Env m c (chunkV m c q) ∗ tIs c kk (quarterV m c kk q) ∗ Ow c l) -∗ Q ⟨⟩)
          -∗ Runs c (quarterF kk) Q) := by
  unfold Runs quarterF Env
  simp only [wp_bind]
  iintro ⟨#Hlev, ⟨Hx, Ha, Hs, Hb0, Hb1⟩, Ht, HO⟩ Hk
  iapply (startB_runs m c _ kk 0) $$ Hb0
  iintro Hb0
  iapply (startB_runs m c _ kk 1) $$ Hb1
  iintro Hb1
  ihave Ht := (tUpTo_zero c kk (quarterV m c kk q)) $$ Ht
  iapply (tileF_runs m c _ l hl kk 0 q) $$ [Hb0 Ha Ht HO]
  · isplitr; · iexact Hlev
    isplitl [Hb0]; · iexact Hb0
    isplitl [Ha]; · iexact Ha
    isplitl [Ht] <;> iassumption
  iintro ⟨Hb0, Ha, Ht, HO⟩
  iapply (tileF_runs m c _ l hl kk 1 q) $$ [Hb1 Ha Ht HO]
  · isplitr; · iexact Hlev
    isplitl [Hb1]; · iexact Hb1
    isplitl [Ha]; · iexact Ha
    isplitl [Ht] <;> iassumption
  iintro ⟨Hb1, Ha, Ht, HO⟩
  ihave Ht := (tUpTo_all c kk (quarterV m c kk q)) $$ Ht
  iapply Hk
  isplitr [Ht HO]
  · isplitl [Hx]; · iexact Hx
    isplitl [Ha]; · iexact Ha
    isplitl [Hs]; · iexact Hs
    isplitl [Hb0] <;> iassumption
  isplitl [Ht] <;> iassumption

omit [FloatOps F] in
/-- Storing half `j` of slot 0 when it is right below the half makes it right up to the half's end. -/
theorem chalf_store (kk : Fin 4) (j : Fin 2) (v : Vec F S1x1024x1024 .bf16) (w : Vec F S1x1024x512 .bf16) (f : (cM kk).view.ty.Contents (Elt F))
    (hw : ∀ x : S1x1024x1024.Idx, halfOf (x 2).val = j → w (ix3 x) = v x)
    (h : ∀ x : S1x1024x1024.Idx, (x 2).val < 512 * j.val → (slotV kk 0).read (Elt F) f x = v x)
    (x : S1x1024x1024.Idx) (hx : (x 2).val < 512 * j.val + 512) :
    (slotV kk 0).read (Elt F) (((cM kk).view.slice (chalfR j)).write (Elt F) f w Finset.univ) x = v x := by
  by_cases h0 : (x 2).val < 512 * j.val
  · refine Eq.trans ?_ (h x h0)
    exact View.read_slice_write_of_not_mem (v := (cM kk).view) (chalfR j) f w Finset.univ (not_chalf j x h0)
  · have hj := halfOf_eq j (x 2).val (Nat.le_of_not_lt h0) hx
    have e := View.read_slice_write_emb (v := (cM kk).view) (chalfR j) f w (Finset.mem_univ (ix3 x))
    rw [chalf_emb j x hj] at e
    exact e.trans (hw x hj)

/-- The elements of a slot, as elements of the stream's buffer. -/
theorem slot_set (kk : Fin 4) (s : Fin 2) : (slotM kk s).view.set = (slotR s).set.map (cM kk).view.emb :=
  (View.set_reshape _ _).trans (View.set_slice _ _)

/-- A tile of the first product, into slot 0. -/
theorem tileI_runs (hl : After 0 l) (kk : Fin 4) (j : Fin 2) (q : Fin 4) :
    iprop(levAts L lv ∗ bFly m c kk j ∗ aPts c (chunkV m c q) ∗ sUpTo c kk (512 * j.val) (initV m c kk q) ∗ Ow c l)
      ⊢ iprop(((bRes m c j ∗ aPts c (chunkV m c q) ∗ sUpTo c kk (512 * j.val + 512) (initV m c kk q) ∗ Ow c l) -∗ Q ⟨⟩)
          -∗ Runs c (tileI kk j) Q) := by
  unfold Runs tileI
  simp only [wp_bind]
  iintro ⟨#Hlev, Hfly, Ha, Ht, HO⟩ Hk
  iapply (waitB_runs m c _ l hl kk j) $$ [Hfly HO]
  · isplitr; · iexact Hlev
    isplitl [Hfly] <;> iassumption
  iintro ⟨Hb, HO⟩
  iapply (getA_runs c _ (chunkV m c q)) $$ Ha
  iintro Ha
  iapply (getB_runs m c _ j (tileV m c kk j)) $$ Hb
  iintro Hb
  simp only [Prog.lift]
  unfold sUpTo slotPts
  icases Ht with ⟨%f, %hf, Ht⟩
  iapply (wp_load 𝒱₀ (c : Thread nD τ) none Set.univ (m := slotM kk 0) (View.setOn_subset_set _ _)) $$ Ht
  iintro Ht
  rw [wp_ret]; imodintro
  iapply (wp_store 𝒱₀ (c : Thread nD τ) none Set.univ (m := cM kk) (r := chalfR j) (Mk := Finset.univ) (S := (slotM kk 0).view.set) (by
    rw [View.setOn_univ, View.set_slice, slot_set]; exact Finset.map_subset_map.mpr (chalf_sub j))) $$ Ht
  iintro Ht
  rw [wp_ret]; imodintro
  iapply Hk
  isplitl [Hb]; · iapply (bDone_res m c j _) $$ Hb
  isplitl [Ha]; · iexact Ha
  isplitl [Ht]
  · iexists _
    isplitr
    rotate_left
    · iexact Ht
    · ipureintro
      exact chalf_store kk j _ _ f (fun x hx => by subst hx; rfl) hf
  iexact HO

/-- A column quarter of the first product, into slot 0. -/
theorem quarterI_runs (hl : After 0 l) (kk : Fin 4) (q : Fin 4) :
    iprop(levAts L lv ∗ Env m c (chunkV m c q) ∗ slotAny c kk 0 ∗ Ow c l)
      ⊢ iprop(((Env m c (chunkV m c q) ∗ slotIs c kk 0 (initV m c kk q) ∗ Ow c l) -∗ Q ⟨⟩)
          -∗ Runs c (quarterI kk) Q) := by
  unfold Runs quarterI Env
  simp only [wp_bind]
  iintro ⟨#Hlev, ⟨Hx, Ha, Hs, Hb0, Hb1⟩, Ht, HO⟩ Hk
  iapply (startB_runs m c _ kk 0) $$ Hb0
  iintro Hb0
  iapply (startB_runs m c _ kk 1) $$ Hb1
  iintro Hb1
  ihave Ht := (sUpTo_zero c kk (initV m c kk q)) $$ Ht
  iapply (tileI_runs m c _ l hl kk 0 q) $$ [Hb0 Ha Ht HO]
  · isplitr; · iexact Hlev
    isplitl [Hb0]; · iexact Hb0
    isplitl [Ha]; · iexact Ha
    isplitl [Ht] <;> iassumption
  iintro ⟨Hb0, Ha, Ht, HO⟩
  iapply (tileI_runs m c _ l hl kk 1 q) $$ [Hb1 Ha Ht HO]
  · isplitr; · iexact Hlev
    isplitl [Hb1]; · iexact Hb1
    isplitl [Ha]; · iexact Ha
    isplitl [Ht] <;> iassumption
  iintro ⟨Hb1, Ha, Ht, HO⟩
  ihave Ht := (sUpTo_all c kk (initV m c kk q)) $$ Ht
  iapply Hk
  isplitr [Ht HO]
  · isplitl [Hx]; · iexact Hx
    isplitl [Ha]; · iexact Ha
    isplitl [Hs]; · iexact Hs
    isplitl [Hb0] <;> iassumption
  isplitl [Ht] <;> iassumption

end Blocks

end Cert.KernelIdeal.Ring
end
-- ==== Proof.KernelIdeal.Hops.lean ====
/-
# The blocks of the body that talk to the neighbours

Starting a copy, waiting for one to have left or to have come, telling the sender that its landing slot is free, and
being told so; then a whole hop, from the state before it to the state after it. Every theorem holds for any stream
and any hop: the slots and rounds are parameters, bound by a few numeric conditions.
-/
module

public import proofs.«01_k».proof.Proof.KernelIdeal.Local

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

/-! ## What every device knows -/

/-- Every cell's invariant, under the names `K`, and that every cell has reached round 0; the levels. -/
def records (K : Dev nD × Cl → ℕ) : sProp 𝕄 :=
  iprop(bigSep Finset.univ (fun p : Dev nD × Cl => cellInv ER (sched m) (K p) (kcell p.1 p.2))
    ∗ bigSep Finset.univ (fun p : Dev nD × Cl => reached (ER (F := F)) (kcell p.1 p.2) 0) ∗ levAts L lv)

instance records_persistent (K : Dev nD × Cl → ℕ) : BI.Persistent (records m K) := by unfold records; infer_instance

/-- One cell's invariant, out of all of them. -/
theorem all_inv (K : Dev nD × Cl → ℕ) (p : Dev nD × Cl) :
    bigSep Finset.univ (fun p : Dev nD × Cl => cellInv ER (sched m) (K p) (kcell p.1 p.2)) ⊢ cellInv ER (sched m) (K p) (kcell p.1 p.2) :=
  bigSep_elim (Finset.mem_univ p)
omit [FloatOps F] in
/-- That a cell has reached round 0, out of all of them. -/
theorem all_zero (p : Dev nD × Cl) :
    bigSep Finset.univ (fun p : Dev nD × Cl => reached (ER (F := F)) (kcell p.1 p.2) 0) ⊢ reached (ER (F := F)) (kcell p.1 p.2) 0 :=
  bigSep_elim (Finset.mem_univ p)
/-- The records hold every cell's invariant, -/
theorem records_inv (K : Dev nD × Cl → ℕ) (c : Dev nD) (k : Cl) : records m K ⊢ cellInv ER (sched m) (K (c, k)) (kcell c k) := by
  unfold records
  iintro ⟨H, -, -⟩
  iapply (all_inv m K (c, k)) $$ H
/-- that every cell has reached round 0, -/
theorem records_zero (K : Dev nD × Cl → ℕ) (c : Dev nD) (k : Cl) : records m K ⊢ reached (ER (F := F)) (kcell c k) 0 := by
  unfold records
  iintro ⟨-, H, -⟩
  iapply (all_zero (F := F) (c, k)) $$ H
/-- and the levels. -/
theorem records_lev (K : Dev nD × Cl → ℕ) : records m K ⊢ (levAts L lv : sProp 𝕄) := by
  unfold records
  iintro ⟨-, -, H⟩; iexact H

/-- One unit, as the kernel's word says it. -/
theorem one_word : 1 = (1#32).toNat := by decide

/-! ## One effect at a time -/

section Effects
variable (K : Dev nD × Cl → ℕ) (c : Dev nD) (Q : PUnit → sProp (MT nD τ sig ℕ (Elt F) ℕ UU ℕ)) (l : List Due)

omit [FloatOps F] in
/-- A slot into which another slot was copied reads as that slot did. -/
theorem read_landed (kk : Fin 4) (ss rs : Fin 2) (fs fd : (cM kk).view.ty.Contents (Elt F)) :
    (slotV kk rs).read (Elt F) ((slotM kk rs).view.write (Elt F) fd ((slotM kk ss).view.read (Elt F) fs) Finset.univ)
      = (slotV kk ss).read (Elt F) fs := funext fun y => by
  have := View.read_write_reshape (Val := Elt F) (slotV kk rs) squeezes_S1x1024x1024_S1024x1024.numel_eq fd
    ((slotM kk ss).view.read (Elt F) fs) ((Shape.reshapeEquiv squeezes_S1x1024x1024_S1024x1024.numel_eq).symm y)
  rw [Equiv.apply_symm_apply] at this
  refine this.trans ?_
  show (slotV kk ss).read (Elt F) fs (Shape.reshapeEquiv squeezes_S1x1024x1024_S1024x1024.numel_eq
    ((Shape.reshapeEquiv squeezes_S1x1024x1024_S1024x1024.numel_eq).symm y)) = _
  rw [Equiv.apply_symm_apply]

/-- Send `t`, from slot `ss` to slot `rs` of the next device, in round `r` of both cells. -/
theorem sendC_runs (kk : Fin 4) (ss rs : Fin 2) (r t : ℕ) (h1 : 2 * r + ss.val = t) (h2 : landT rs r = t)
    (hr1 : r < roundsR (.sd ss)) (hr2 : r < roundsR (.rv rs)) (n : Dev nD) (hn : n = dn kk c) :
    iprop(records m K ∗ slotIs c kk ss (chain m kk t c) ∗ slotAny (dn kk c) kk rs ∗ Ow c ((st kk (.rv rs), r, false) :: l)
        ∗ dutyTok (ER (F := F)) (kcell c (st kk (.sd ss))) r false ∗ reached (ER (F := F)) (kcell c (st kk (.sd ss))) r
        ∗ dutyTok (ER (F := F)) (kcell (dn kk c) (st kk (.rv rs))) r false ∗ reached (ER (F := F)) (kcell (dn kk c) (st kk (.rv rs))) r
        ∗ reached (ER (F := F)) (kcell c (st kk .cr)) t)
      ⊢ iprop(((cred (tallyAt (kcell c (st kk (.sd ss))) r N) ∗ Ow c l) -∗ Q ⟨⟩) -∗ Runs c (sendC n kk ss rs) Q) := by
  subst hn
  unfold Runs sendC Ow slotIs slotAny
  simp only [Prog.lift]
  iintro ⟨#Hrec, ⟨%fs, %hfs, Hsrc⟩, ⟨%fd, Hdst⟩, ⟨%W, HO⟩, Ht1, Hr1, Ht2, Hr2, Hcr⟩ Hk
  unfold slotPts
  iapply (Rounds.wp_send_pointsTo_with 𝒱₀ ER (sched m) (c : Thread nD τ) none (c' := (dn kk c : Thread nD τ))
    (src := slotM kk ss) (dst := slotM kk rs) (sS := .dma (sdS kk ss)) (sem := .dma (rvS kk rs))
    (κ₁ := K (c, st kk (.sd ss))) (κ₂ := K (dn kk c, st kk (.rv rs))) (r₁ := r) (r₂ := r) (d₁ := false) (d₂ := false)
    (fs := fs) (fd := fd) (q := fullShare) (F := reached (ER (F := F)) (kcell c (st kk .cr)) t)
    (by rw [show ((c : Thread nD τ), SemLoc.dma (sdS kk ss)) = kcell c (st kk (.sd ss)) from rfl, duties_st m c r hr1]; exact Finset.mem_singleton_self _)
    (by rw [show ((dn kk c : Thread nD τ), SemLoc.dma (rvS kk rs)) = kcell (dn kk c) (st kk (.rv rs)) from rfl, duties_st m (dn kk c) r hr2]; exact Finset.mem_singleton_self _)
    r r N (N_eq kk rs) (sched_amount m c (st kk (.sd ss)) r false) (sched_amount m (dn kk c) (st kk (.rv rs)) r false)
    (owedOf c l) rfl (W := W)
    (by
      rw [show ((c : Thread nD τ), SemLoc.dma (sdS kk ss)) = kcell c (st kk (.sd ss)) from rfl, sched_payload]
      dsimp only [payK]; rw [h1]; unfold slotIs slotPts
      iintro H; iexists fs
      isplitr; · ipureintro; exact hfs
      iexact H)
    (by
      rw [show ((dn kk c : Thread nD τ), SemLoc.dma (rvS kk rs)) = kcell (dn kk c) (st kk (.rv rs)) from rfl, sched_payload]
      dsimp only [payK]; rw [h2, up_dn]; unfold slotIs slotPts
      iintro ⟨H, Hc⟩
      isplitl [H]
      · iexists _
        isplitr
        rotate_left
        · iexact H
        · ipureintro; exact (read_landed kk ss rs fs fd).trans hfs
      iexact Hc)) $$ [Hsrc Hdst HO Ht1 Hr1 Ht2 Hr2 Hcr]
  · isplitr; · iapply (records_inv m K c (st kk (.sd ss))); iexact Hrec
    isplitr; · iapply (records_inv m K (dn kk c) (st kk (.rv rs))); iexact Hrec
    isplitl [Hsrc]; · iexact Hsrc
    isplitl [Hdst Hcr]
    · isplitl [Hdst] <;> iassumption
    isplitl [HO]; · iexact HO
    isplitl [Ht1]; · iexact Ht1
    isplitl [Hr1]; · iexact Hr1
    isplitl [Ht2]; · iexact Ht2
    iexact Hr2
  iintro ⟨Hc, HO⟩
  rw [wp_ret]; imodintro
  iapply Hk
  isplitl [Hc]; · iexact Hc
  iexists W; iexact HO

/-- Waiting for send `t` to have left slot `ss`. -/
theorem waitSd_runs (hl : After 0 l) (kk : Fin 4) (ss rs : Fin 2) (r t : ℕ) (h1 : 2 * r + ss.val = t) (hr : r < roundsR (.sd ss)) (hr2 : r < 2) :
    iprop(records m K ∗ cred (tallyAt (kcell c (st kk (.sd ss))) r N) ∗ Ow c l ∗ atPos (ER (F := F)) (kcell c (st kk (.sd ss))) r ∅ 0)
      ⊢ iprop(((Ow c l ∗ atPos (ER (F := F)) (kcell c (st kk (.sd ss))) (r + 1) ∅ 0 ∗ reached (ER (F := F)) (kcell c (st kk (.sd ss))) (r + 1)
            ∗ slotIs c kk ss (chain m kk t c)) -∗ Q ⟨⟩) -∗ Runs c (waitSd kk ss rs) Q) := by
  unfold Runs waitSd Ow
  simp only [Prog.lift]
  iintro ⟨#Hrec, Hc, ⟨%W, HO⟩, Hat⟩ Hk
  iapply (Rounds.wp_wait_rest_token 𝒱₀ ER (sched m) (c : Thread nD τ) none (κ := K (c, st kk (.sd ss)))
      (wpE_waitDma2_eq 𝒱₀ (c : Thread nD τ) none Set.univ) (Set.mem_univ _) r (O := owedOf c l) (W := W) (R := r) (m := 0) (T := ∅)
      (by rw [Nat.zero_add, N_eq]; exact (expect_st m c r hr).symm)) $$ [Hc HO Hat]
  · isplitr; · iapply (records_inv m K c (st kk (.sd ss))); iexact Hrec
    isplitl [Hc]; · rw [N_eq]; iexact Hc
    isplitl [HO]; · iexact HO
    isplitr
    · iapply (mayWait_cell c (st kk (.sd ss)) r hr2 l hl); iapply (records_lev m K); iexact Hrec
    iexact Hat
  iintro ⟨HO, Hat, Hre, Hpay⟩
  ihave Hp := (Entails.of_eq (rest_st m c r (kk := kk) (ρ := .sd ss) hr)) $$ Hpay
  dsimp only [payK]; rw [h1, wp_ret]; imodintro
  iapply Hk
  isplitl [HO]; · iexists _; iexact HO
  isplitl [Hat]; · iexact Hat
  isplitl [Hre]; · iexact Hre
  iexact Hp

/-- Waiting for send `t` of the device before to have come into slot `rs`. -/
theorem waitRv_runs (kk : Fin 4) (ss rs : Fin 2) (r t : ℕ) (h2 : landT rs r = t) (hr : r < roundsR (.rv rs)) (hr2 : r < 2)
    (hl : After (lvK (st kk (.rv rs)) r) l) :
    iprop(records m K ∗ cred (tallyAt (kcell c (st kk (.rv rs))) r N) ∗ Ow c l ∗ atPos (ER (F := F)) (kcell c (st kk (.rv rs))) r ∅ 0)
      ⊢ iprop(((Ow c l ∗ atPos (ER (F := F)) (kcell c (st kk (.rv rs))) (r + 1) ∅ 0 ∗ reached (ER (F := F)) (kcell c (st kk (.rv rs))) (r + 1)
            ∗ slotIs c kk rs (chain m kk t (up kk c)) ∗ reached (ER (F := F)) (kcell (up kk c) (st kk .cr)) t) -∗ Q ⟨⟩) -∗ Runs c (waitRv kk ss rs) Q) := by
  unfold Runs waitRv Ow
  simp only [Prog.lift]
  iintro ⟨#Hrec, Hc, ⟨%W, HO⟩, Hat⟩ Hk
  iapply (Rounds.wp_wait_rest_token 𝒱₀ ER (sched m) (c : Thread nD τ) none (κ := K (c, st kk (.rv rs)))
      (wpE_waitDma2_eq 𝒱₀ (c : Thread nD τ) none Set.univ) (Set.mem_univ _) r (O := owedOf c l) (W := W) (R := r) (m := 0) (T := ∅)
      (by rw [Nat.zero_add, N_eq]; exact (expect_st m c r hr).symm)) $$ [Hc HO Hat]
  · isplitr; · iapply (records_inv m K c (st kk (.rv rs))); iexact Hrec
    isplitl [Hc]; · rw [N_eq]; iexact Hc
    isplitl [HO]; · iexact HO
    isplitr
    · iapply (mayWait_cell c (st kk (.rv rs)) r hr2 l hl); iapply (records_lev m K); iexact Hrec
    iexact Hat
  iintro ⟨HO, Hat, Hre, Hpay⟩
  ihave Hp := (Entails.of_eq (rest_st m c r (kk := kk) (ρ := .rv rs) hr)) $$ Hpay
  dsimp only [payK]; rw [h2, wp_ret]; imodintro
  icases Hp with ⟨Hp, Hq⟩
  iapply Hk
  isplitl [HO]; · iexists _; iexact HO
  isplitl [Hat]; · iexact Hat
  isplitl [Hre]; · iexact Hre
  isplitl [Hp] <;> iassumption

/-- Telling the device before that its landing slot for send `t + 1`, slot `ss` here, is free. -/
theorem signal_runs (kk : Fin 4) (ss : Fin 2) (t r' : ℕ) (hs : sl t = ss) (hr : (t + 1) / 2 = r') (ht : t < 2) (n : Dev nD) (hn : n = up kk c) :
    iprop(records m K ∗ slotAny c kk ss ∗ reached (ER (F := F)) (kcell c (st kk (.rv ss))) r' ∗ Ow c ((st kk .cr, t, false) :: l)
        ∗ dutyTok (ER (F := F)) (kcell (up kk c) (st kk .cr)) t false ∗ reached (ER (F := F)) (kcell (up kk c) (st kk .cr)) t)
      ⊢ iprop((Ow c l -∗ Q ⟨⟩) -∗ Runs c (semSignalWord n (crS kk) 1#32) Q) := by
  subst hn
  unfold Runs Ow
  simp only [semSignalWord]
  iintro ⟨#Hrec, Hs, Hrv, ⟨%W, HO⟩, Ht, Hr⟩ Hk
  iapply (Rounds.wp_signal 𝒱₀ ER (sched m) (c : Thread nD τ) none (dst := (up kk c : Thread nD τ)) (sem := crS kk) (κ := K (up kk c, st kk .cr))
      (r := t) (d := false)
      (by rw [show ((up kk c : Thread nD τ), SemLoc.reg (crS kk)) = kcell (up kk c) (st kk .cr) from rfl, duties_st m (up kk c) t (kk := kk) (ρ := .cr) ht]; exact Finset.mem_singleton_self _)
      ((sched_amount m (up kk c) (st kk .cr) t false).trans one_word) t (owedOf c l) rfl)
    $$ [Hs Hrv HO Ht Hr]
  · isplitr; · iapply (records_inv m K (up kk c) (st kk .cr)); iexact Hrec
    isplitl [HO]; · iexact HO
    isplitl [Ht]; · iexact Ht
    isplitl [Hs Hrv]
    · rw [show ((up kk c : Thread nD τ), SemLoc.reg (crS kk)) = kcell (up kk c) (st kk .cr) from rfl, sched_payload]
      dsimp only [payK]; rw [dn_up, hs, hr]
      isplitl [Hs] <;> iassumption
    iexact Hr
  iintro HO
  rw [wp_ret]; imodintro
  iapply Hk
  iexists W; iexact HO

/-- Being told that the next device's landing slot for send `t + 1` is free. -/
theorem waitCr_runs (kk : Fin 4) (ss : Fin 2) (t r' : ℕ) (hs : sl t = ss) (hr : (t + 1) / 2 = r') (ht : t < 2)
    (hl : After (lvK (st kk .cr) t) l) :
    iprop(records m K ∗ cred (tallyAt (kcell c (st kk .cr)) t 1) ∗ Ow c l ∗ atPos (ER (F := F)) (kcell c (st kk .cr)) t ∅ 0)
      ⊢ iprop(((Ow c l ∗ atPos (ER (F := F)) (kcell c (st kk .cr)) (t + 1) ∅ 0 ∗ reached (ER (F := F)) (kcell c (st kk .cr)) (t + 1)
            ∗ slotAny (dn kk c) kk ss ∗ reached (ER (F := F)) (kcell (dn kk c) (st kk (.rv ss))) r') -∗ Q ⟨⟩)
          -∗ Runs c (semWaitWord (crS kk) 1#32) Q) := by
  unfold Runs Ow
  simp only [semWaitWord]
  iintro ⟨#Hrec, Hc, ⟨%W, HO⟩, Hat⟩ Hk
  iapply (Rounds.wp_wait_rest_token 𝒱₀ ER (sched m) (c : Thread nD τ) none (κ := K (c, st kk .cr))
      (wpE_semWait_eq 𝒱₀ (c : Thread nD τ) none Set.univ) (Set.mem_univ _) t (O := owedOf c l) (W := W) (R := t) (m := 0) (T := ∅)
      (by rw [Nat.zero_add]; exact one_word.symm.trans (expect_st m c t (kk := kk) (ρ := .cr) ht).symm)) $$ [Hc HO Hat]
  · isplitr; · iapply (records_inv m K c (st kk .cr)); iexact Hrec
    isplitl [Hc]; · iexact Hc
    isplitl [HO]; · iexact HO
    isplitr
    · iapply (mayWait_cell c (st kk .cr) t ht l hl); iapply (records_lev m K); iexact Hrec
    iexact Hat
  iintro ⟨HO, Hat, Hre, Hpay⟩
  ihave Hp := (Entails.of_eq (rest_st m c t (kk := kk) (ρ := .cr) ht)) $$ Hpay
  dsimp only [payK]; rw [hs, hr, wp_ret]; imodintro
  icases Hp with ⟨Hp, Hq⟩
  iapply Hk
  isplitl [HO]; · iexists _; iexact HO
  isplitl [Hat]; · iexact Hat
  isplitl [Hre]; · iexact Hre
  isplitl [Hp] <;> iassumption

/-- The whole-slot load reads elements of the slot alone, -/
theorem slot_sub (kk : Fin 4) (s : Fin 2) : (cM kk).view.setOn (slotR s).toLoadRect.set ⊆ (slotM kk s).view.set := by
  rw [slot_set]; exact Finset.Subset.refl _
/-- and the whole-slot store writes elements of the slot alone. -/
theorem slot_sub' (kk : Fin 4) (s : Fin 2) : ((cM kk).access (slotR s)).setOn Finset.univ ⊆ (slotM kk s).view.set := by
  rw [slot_set, View.setOn_univ, View.set_slice]

/-- Reading a slot; reading a temporary. -/
theorem getC_runs (Q : Vec F S1x1024x1024 .bf16 → sProp 𝕄) (kk : Fin 4) (s : Fin 2) (v : Vec F S1x1024x1024 .bf16) :
    slotIs c kk s v ⊢ iprop((slotIs c kk s v -∗ Q v) -∗ Runs c (getC kk s) Q) := by
  unfold Runs getC slotIs slotPts
  simp only [Prog.lift]
  iintro ⟨%f, %hf, Hf⟩ Hk
  iapply (wp_load 𝒱₀ (c : Thread nD τ) none Set.univ (m := cM kk) (S := (slotM kk s).view.set) (slot_sub kk s)) $$ Hf
  iintro Hf
  rw [show (cM kk).view.readAt (Elt F) (slotR s).toLoadRect f = v from hf, wp_ret]; imodintro
  iapply Hk
  iexists f
  isplitr; · ipureintro; exact hf
  iexact Hf

/-- Reading a stream's temporary gives its value and changes nothing. -/
theorem getT_runs (Q : Vec F S1024x1024 .f32 → sProp 𝕄) (kk : Fin 4) (v : Vec F S1024x1024 .f32) :
    tIs c kk v ⊢ iprop((tIs c kk v -∗ Q v) -∗ Runs c (getT kk) Q) := by
  unfold Runs getT tIs tPts
  simp only [Prog.lift]
  iintro ⟨%f, %hf, Hf⟩ Hk
  iapply (wp_load 𝒱₀ (c : Thread nD τ) none Set.univ (m := tM kk) (View.setOn_subset_set _ _)) $$ Hf
  iintro Hf
  rw [show (tM kk).view.readAt (Elt F) tR.toLoadRect f = v from (View.readAt_full (tM kk).view f _).trans hf, wp_ret]; imodintro
  iapply Hk
  iexists f
  isplitr; · ipureintro; exact hf
  iexact Hf

omit [FloatOps F] in
/-- A whole temporary reads back what was stored over it. -/
theorem write_temp (kk : Fin 4) (f : (tM kk).view.ty.Contents (Elt F)) (w : Vec F S1024x1024 .f32) :
    (tM kk).view.read (Elt F) (((tM kk).access tR).write (Elt F) f w Finset.univ) = w := by
  refine (View.readAt_full (tM kk).view _ inb_S1024x1024_S1024x1024_0_0).symm.trans ?_
  exact View.read_write_univ (v := (tM kk).view.slice tR) f w

/-- Adding the local product to what came in. -/
theorem accum_runs (kk : Fin 4) (rs : Fin 2) (u : Vec F S1x1024x1024 .bf16) (v : Vec F S1024x1024 .f32) :
    iprop(slotIs c kk rs u ∗ tIs c kk v)
      ⊢ iprop(((slotIs c kk rs (accP u v) ∗ tIs c kk v) -∗ Q ⟨⟩) -∗ Runs c (accum kk rs) Q) := by
  unfold Runs accum
  simp only [wp_bind]
  iintro ⟨Hs, Ht⟩ Hk
  iapply (getC_runs c _ kk rs u) $$ Hs
  iintro Hs
  iapply (getT_runs c _ kk v) $$ Ht
  iintro Ht
  iapply (getC_runs c _ kk rs u) $$ Hs
  iintro Hs
  unfold slotIs slotPts
  simp only [Prog.lift]
  icases Hs with ⟨%f, -, Hs⟩
  iapply (wp_store 𝒱₀ (c : Thread nD τ) none Set.univ (m := cM kk) (r := slotR rs) (Mk := Finset.univ) (S := (slotM kk rs).view.set) (slot_sub' kk rs)) $$ Hs
  iintro Hs
  rw [wp_ret]; imodintro
  iapply Hk
  isplitl [Hs]
  · iexists _
    isplitr
    rotate_left
    · iexact Hs
    · ipureintro; exact View.read_write_univ _ _
  iexact Ht

/-- The barrier: each neighbour gets the slots it sends to, and hands over the ones this device sends to. -/
theorem barrier_runs (hl : After 1 l) (p n : Dev nD) (hp : p = prv c) (hn : n = nxt c) :
    iprop(records m K ∗ Ow c ((bar, 0, true) :: (bar, 0, false) :: l)
        ∗ dutyTok (ER (F := F)) (kcell (prv c) bar) 0 true ∗ dutyTok (ER (F := F)) (kcell (nxt c) bar) 0 false
        ∗ (slotAny c 2 1 ∗ slotAny c 3 1) ∗ (slotAny c 0 1 ∗ slotAny c 1 1)
        ∗ cred (tallyAt (kcell c bar) 0 2) ∗ atPos (ER (F := F)) (kcell c bar) 0 ∅ 0)
      ⊢ iprop(((Ow c l ∗ atPos (ER (F := F)) (kcell c bar) 1 ∅ 0 ∗ (slotAny (prv c) 0 1 ∗ slotAny (prv c) 1 1)
            ∗ (slotAny (nxt c) 2 1 ∗ slotAny (nxt c) 3 1)) -∗ Q ⟨⟩) -∗ Runs c (barrier p n) Q) := by
  subst hp; subst hn
  unfold Runs barrier Ow
  simp only [semSignalWord, semWaitWord, Prog.bind_op, Prog.bind_ret, Prog.pure_eq_ret]
  iintro ⟨#Hrec, ⟨%W, HO⟩, Htp, Htn, Hs1, Hs2, Hc, Hat⟩ Hk
  iapply (Rounds.wp_signal 𝒱₀ ER (sched m) (c : Thread nD τ) none (dst := (prv c : Thread nD τ)) (sem := barS) (κ := K (prv c, bar))
      (r := 0) (d := true)
      (by rw [show ((prv c : Thread nD τ), SemLoc.reg barS) = kcell (prv c) bar from rfl, duties_bar m (prv c)]; exact Finset.mem_univ _)
      ((sched_amount m (prv c) bar 0 true).trans one_word) 0 (owedOf c ((bar, 0, false) :: l)) rfl)
    $$ [Hs1 HO Htp]
  · isplitr; · iapply (records_inv m K (prv c) bar); iexact Hrec
    isplitl [HO]; · iexact HO
    isplitl [Htp]; · iexact Htp
    isplitl [Hs1]
    · rw [show ((prv c : Thread nD τ), SemLoc.reg barS) = kcell (prv c) bar from rfl, sched_payload]
      dsimp only [payK]; rw [if_pos rfl, nxt_prv]
      iexact Hs1
    iapply (records_zero m K (prv c) bar); iexact Hrec
  iintro HO
  iapply (Rounds.wp_signal 𝒱₀ ER (sched m) (c : Thread nD τ) none (dst := (nxt c : Thread nD τ)) (sem := barS) (κ := K (nxt c, bar))
      (r := 0) (d := false)
      (by rw [show ((nxt c : Thread nD τ), SemLoc.reg barS) = kcell (nxt c) bar from rfl, duties_bar m (nxt c)]; exact Finset.mem_univ _)
      ((sched_amount m (nxt c) bar 0 false).trans one_word) 0 (owedOf c l) rfl)
    $$ [Hs2 HO Htn]
  · isplitr; · iapply (records_inv m K (nxt c) bar); iexact Hrec
    isplitl [HO]; · iexact HO
    isplitl [Htn]; · iexact Htn
    isplitl [Hs2]
    · rw [show ((nxt c : Thread nD τ), SemLoc.reg barS) = kcell (nxt c) bar from rfl, sched_payload]
      dsimp only [payK]; rw [if_neg Bool.false_ne_true, prv_nxt]
      iexact Hs2
    iapply (records_zero m K (nxt c) bar); iexact Hrec
  iintro HO
  iapply (Rounds.wp_wait_rest_token 𝒱₀ ER (sched m) (c : Thread nD τ) none (κ := K (c, bar))
      (wpE_semWait_eq 𝒱₀ (c : Thread nD τ) none Set.univ) (Set.mem_univ _) 0 (O := owedOf c l) (W := W) (R := 0) (m := 0) (T := ∅)
      (by rw [Nat.zero_add]; exact Eq.trans (by decide) (expect_bar m c).symm)) $$ [Hc HO Hat]
  · isplitr; · iapply (records_inv m K c bar); iexact Hrec
    isplitl [Hc]; · iexact Hc
    isplitl [HO]; · iexact HO
    isplitr
    · iapply (mayWait_cell c bar 0 (by decide) l hl); iapply (records_lev m K); iexact Hrec
    iexact Hat
  iintro ⟨HO, Hat, -, Hpay⟩
  ihave Hp := (Entails.of_eq (rest_bar m c)) $$ Hpay
  dsimp only [payK]; rw [if_pos rfl, if_neg Bool.false_ne_true, wp_ret]; imodintro
  icases Hp with ⟨Hp, Hq⟩
  iapply Hk
  isplitl [HO]; · iexists _; iexact HO
  isplitl [Hat]; · iexact Hat
  isplitl [Hp] <;> iassumption

end Effects

/-! ## A whole hop -/

/-- Where stream `kk` stands before hop `t`: send `t` has left slot `ss` for slot `rs` of the next device, in round `r`,
    and send `t` of the device before is awaited in `rs`; round `r'` is the one of the other slot. -/
def At (c : Dev nD) (kk : Fin 4) (ss rs : Fin 2) (r r' t : ℕ) : sProp 𝕄 :=
  iprop(cred (tallyAt (kcell c (st kk (.sd ss))) r N) ∗ atPos (ER (F := F)) (kcell c (st kk (.sd ss))) r ∅ 0
    ∗ atPos (ER (F := F)) (kcell c (st kk (.sd rs))) r' ∅ 0 ∗ reached (ER (F := F)) (kcell c (st kk (.sd rs))) r'
    ∗ atPos (ER (F := F)) (kcell c (st kk (.rv rs))) r ∅ 0
    ∗ atPos (ER (F := F)) (kcell c (st kk (.rv ss))) r' ∅ 0 ∗ reached (ER (F := F)) (kcell c (st kk (.rv ss))) r'
    ∗ atPos (ER (F := F)) (kcell c (st kk .cr)) t ∅ 0 ∗ cred (tallyAt (kcell c (st kk (.rv rs))) r N))

/-- What hop `t` uses up: the tokens of the credit and of send `t + 1`, and the right to wait for their counterparts. -/
def Fuel (c : Dev nD) (kk : Fin 4) (ss rs : Fin 2) (r' t : ℕ) : sProp 𝕄 :=
  iprop(dutyTok (ER (F := F)) (kcell (up kk c) (st kk .cr)) t false ∗ cred (tallyAt (kcell c (st kk .cr)) t 1)
    ∗ dutyTok (ER (F := F)) (kcell c (st kk (.sd rs))) r' false ∗ dutyTok (ER (F := F)) (kcell (dn kk c) (st kk (.rv ss))) r' false
    ∗ cred (tallyAt (kcell c (st kk (.rv ss))) r' N))

/-- The numbers of hop `t` fit together. -/
def HopOK (ss rs : Fin 2) (r r' t : ℕ) : Prop :=
  (2 * r + ss.val = t ∧ landT rs r = t ∧ sl t = ss ∧ (t + 1) / 2 = r' ∧ 2 * r' + rs.val = t + 1 ∧ landT ss r' = t + 1)
    ∧ (r < roundsR (.sd ss) ∧ r < roundsR (.rv rs) ∧ r' < roundsR (.sd rs) ∧ r' < roundsR (.rv ss)) ∧ t < 2 ∧ r < 2 ∧ r' < 2
instance (ss rs : Fin 2) (r r' t : ℕ) : Decidable (HopOK ss rs r r' t) := by unfold HopOK; infer_instance

section Hop
variable (K : Dev nD × Cl → ℕ) (c : Dev nD) (Q : PUnit → sProp (MT nD τ sig ℕ (Elt F) ℕ UU ℕ)) (l : List Due)

/-- Hop `t`: from the state before it to the state before the next, the sum having gone on. -/
theorem hop_runs (kk : Fin 4) (ss rs : Fin 2) (r r' t : ℕ) (ok : HopOK ss rs r r' t) (u d : Dev nD) (hu : u = up kk c) (hd : d = dn kk c)
    (hl0 : After 0 ((st kk .cr, t, false) :: (st kk (.rv ss), r', false) :: l))
    (hl1 : After (lvK (st kk (.rv rs)) r) ((st kk .cr, t, false) :: (st kk (.rv ss), r', false) :: l))
    (hl2 : After (lvK (st kk .cr) t) ((st kk (.rv ss), r', false) :: l)) :
    iprop(records m K ∗ At c kk ss rs r r' t ∗ Fuel c kk ss rs r' t ∗ tIs c kk (quarterV m c kk (chunk kk (t + 1) c))
        ∗ Ow c ((st kk .cr, t, false) :: (st kk (.rv ss), r', false) :: l))
      ⊢ iprop(((At c kk rs ss r' (r + 1) (t + 1) ∗ tAny c kk ∗ Ow c l) -∗ Q ⟨⟩) -∗ Runs c (hop u d kk ss rs) Q) := by
  obtain ⟨⟨e1, e2, e3, e4, e5, e6⟩, ⟨b1, b2, b3, b4⟩, b5, b6, b7⟩ := ok
  unfold Runs hop At Fuel
  simp only [wp_bind]
  iintro ⟨#Hrec, ⟨Hcs, Has, Has', #Hrs', Hav, Hav', #Hrv', Hac, Hcv⟩, ⟨Htc, Hcc, Hts, Htv, Hcv'⟩, Ht, HO⟩ Hk
  iapply (waitSd_runs m K c _ _ hl0 kk ss rs r t e1 b1 b6) $$ [Hcs HO Has]
  · isplitr; · iexact Hrec
    isplitl [Hcs]; · iexact Hcs
    isplitl [HO] <;> iassumption
  iintro ⟨HO, Has, Hrs, Hss⟩
  iapply (waitRv_runs m K c _ _ kk ss rs r t e2 b2 b6 hl1) $$ [Hcv HO Hav]
  · isplitr; · iexact Hrec
    isplitl [Hcv]; · iexact Hcv
    isplitl [HO] <;> iassumption
  iintro ⟨HO, Hav, Hrv, Hsr, Hrc⟩
  ihave Hss := (slotIs_any c kk ss _) $$ Hss
  iapply (signal_runs m K c _ _ kk ss t r' e3 e4 b5 u hu) $$ [Hss HO Htc Hrc]
  · isplitr; · iexact Hrec
    isplitl [Hss]; · iexact Hss
    isplitr; · iexact Hrv'
    isplitl [HO]; · iexact HO
    isplitl [Htc] <;> iassumption
  iintro HO
  iapply (accum_runs c _ kk rs _ _) $$ [Hsr Ht]
  · isplitl [Hsr] <;> iassumption
  iintro ⟨Hsr, Ht⟩
  iapply (waitCr_runs m K c _ _ kk ss t r' e3 e4 b5 hl2) $$ [Hcc HO Hac]
  · isplitr; · iexact Hrec
    isplitl [Hcc]; · iexact Hcc
    isplitl [HO] <;> iassumption
  iintro ⟨HO, Hac, #Hrc, Hsd, Hrd⟩
  iapply (sendC_runs m K c _ l kk rs ss r' (t + 1) e5 e6 b3 b4 d hd) $$ [Hsr Hsd HO Hts Htv Hrd]
  · isplitr; · iexact Hrec
    isplitl [Hsr]; · dsimp only [chain]; iexact Hsr
    isplitl [Hsd]; · iexact Hsd
    isplitl [HO]; · iexact HO
    isplitl [Hts]; · iexact Hts
    isplitr; · iexact Hrs'
    isplitl [Htv]; · iexact Htv
    isplitl [Hrd]; · iexact Hrd
    iexact Hrc
  iintro ⟨Hcs, HO⟩
  iapply Hk
  isplitr [Ht HO]
  · isplitl [Hcs]; · iexact Hcs
    isplitl [Has']; · iexact Has'
    isplitl [Has]; · iexact Has
    isplitl [Hrs]; · iexact Hrs
    isplitl [Hav']; · iexact Hav'
    isplitl [Hav]; · iexact Hav
    isplitl [Hrv]; · iexact Hrv
    isplitl [Hac] <;> iassumption
  isplitl [Ht]; · iapply (tIs_any c kk _) $$ Ht
  iexact HO

/-- What a stream starts from: its positions at round 0 everywhere, and what send 0 uses up. -/
def Pos0 (c : Dev nD) (kk : Fin 4) : sProp 𝕄 :=
  iprop(atPos (ER (F := F)) (kcell c (st kk .cr)) 0 ∅ 0
    ∗ (atPos (ER (F := F)) (kcell c (st kk (.sd 0))) 0 ∅ 0 ∗ atPos (ER (F := F)) (kcell c (st kk (.sd 1))) 0 ∅ 0)
    ∗ (atPos (ER (F := F)) (kcell c (st kk (.rv 0))) 0 ∅ 0 ∗ atPos (ER (F := F)) (kcell c (st kk (.rv 1))) 0 ∅ 0))
def Fuel0 (c : Dev nD) (kk : Fin 4) : sProp 𝕄 :=
  iprop(dutyTok (ER (F := F)) (kcell c (st kk (.sd 0))) 0 false ∗ dutyTok (ER (F := F)) (kcell (dn kk c) (st kk (.rv 1))) 0 false
    ∗ cred (tallyAt (kcell c (st kk (.rv 1))) 0 N))

/-- Send 0. -/
theorem start_runs (kk : Fin 4) (n : Dev nD) (hn : n = dn kk c) :
    iprop(records m K ∗ Pos0 c kk ∗ Fuel0 c kk ∗ slotIs c kk 0 (initV m c kk (chunk kk 0 c)) ∗ slotAny (dn kk c) kk 1
        ∗ Ow c ((st kk (.rv 1), 0, false) :: l))
      ⊢ iprop(((At c kk 0 1 0 0 0 ∗ Ow c l) -∗ Q ⟨⟩) -∗ Runs c (sendC n kk 0 1) Q) := by
  unfold At Pos0 Fuel0
  iintro ⟨#Hrec, ⟨Hac, ⟨Has, Has'⟩, ⟨Hav', Hav⟩⟩, ⟨Hts, Htv, Hcv⟩, Hs, Hd, HO⟩ Hk
  iapply (sendC_runs m K c _ l kk 0 1 0 0 (by decide) (by decide) (by decide) (by decide) n hn) $$ [Hs Hd HO Hts Htv]
  · isplitr; · iexact Hrec
    isplitl [Hs]; · dsimp only [chain]; iexact Hs
    isplitl [Hd]; · iexact Hd
    isplitl [HO]; · iexact HO
    isplitl [Hts]; · iexact Hts
    isplitr; · iapply (records_zero m K c (st kk (.sd 0))); iexact Hrec
    isplitl [Htv]; · iexact Htv
    isplitr; · iapply (records_zero m K (dn kk c) (st kk (.rv 1))); iexact Hrec
    iapply (records_zero m K c (st kk .cr)); iexact Hrec
  iintro ⟨Hcs, HO⟩
  iapply Hk
  isplitr [HO]
  · isplitl [Hcs]; · iexact Hcs
    isplitl [Has]; · iexact Has
    isplitl [Has']; · iexact Has'
    isplitr; · iapply (records_zero m K c (st kk (.sd 1))); iexact Hrec
    isplitl [Hav]; · iexact Hav
    isplitl [Hav']; · iexact Hav'
    isplitr; · iapply (records_zero m K c (st kk (.rv 0))); iexact Hrec
    isplitl [Hac] <;> iassumption
  iexact HO

/-! ## The last hop and the result -/

abbrev oLoc (c : Dev nD) : Loc nD τ sig := oM.view.loc (c : Thread nD τ)
def outPts (c : Dev nD) (kk : Fin 4) (f : Buf (Elt F) (oLoc c)) : sProp 𝕄 := oLoc c ↦[(outM kk).view.set]{fullShare} f
/-- Stream `kk`'s quarter of the result holds `v`. -/
def outIs (c : Dev nD) (kk : Fin 4) (v : Vec F S1024x1024 .f32) : sProp 𝕄 :=
  iprop(∃ f : Buf (Elt F) (oLoc c), ⌜(outM kk).view.read (Elt F) f = v⌝ ∗ outPts c kk f)

/-- What copying a quarter of the result out needs; that copy in flight. -/
def oRes (c : Dev nD) (kk : Fin 4) : sProp 𝕄 := iprop((∃ f, outPts c kk f) ∗ semVal ((c : Thread nD τ), SemLoc.dma (oS kk)) 0)
def oFly (c : Dev nD) (kk : Fin 4) (v : Vec F S1024x1024 .f32) : sProp 𝕄 :=
  iprop(∃ (f : Buf (Elt F) (tLoc kk c)) (fd : Buf (Elt F) (oLoc c)), ⌜(tM kk).view.read (Elt F) f = v⌝
    ∗ Flight EC (c : Thread nD τ) (.dma (oS kk)) 0 (outM kk).view.dmaCredit
        iprop((oLoc c ↦[(outM kk).view.set]{fullShare} (outM kk).view.write (Elt F) fd (ReadAs.same.apply ((tM kk).view.read (Elt F) f)) Finset.univ)
          ∗ (tLoc kk c ↦[(tM kk).view.set]{fullShare} f)))

/-- A stream's positions when it is over. -/
def PosEnd (c : Dev nD) (kk : Fin 4) : sProp 𝕄 :=
  iprop(atPos (ER (F := F)) (kcell c (st kk .cr)) 2 ∅ 0
    ∗ (atPos (ER (F := F)) (kcell c (st kk (.sd 0))) 2 ∅ 0 ∗ atPos (ER (F := F)) (kcell c (st kk (.sd 1))) 1 ∅ 0)
    ∗ (atPos (ER (F := F)) (kcell c (st kk (.rv 0))) 1 ∅ 0 ∗ atPos (ER (F := F)) (kcell c (st kk (.rv 1))) 2 ∅ 0))

/-- The last hop: the quarter of the result is on its way out. -/
theorem last_runs (kk : Fin 4) :
    iprop(records m K ∗ At c kk 0 1 1 1 2 ∗ tIs c kk (quarterV m c kk (chunk kk 3 c)) ∗ oRes c kk ∗ Ow c [])
      ⊢ iprop(((PosEnd c kk ∗ (slotAny c kk 0 ∗ slotAny c kk 1) ∗ oFly c kk (finalV m kk c) ∗ Ow c []) -∗ Q ⟨⟩) -∗ Runs c (last kk) Q) := by
  have hl : ∀ b, After b [] := fun b d hd => absurd hd List.not_mem_nil
  unfold Runs last At
  simp only [wp_bind]
  iintro ⟨#Hrec, ⟨Hcs, Has, Has', -, Hav, Hav', -, Hac, Hcv⟩, Ht, Ho, HO⟩ Hk
  iapply (waitSd_runs m K c _ _ (hl 0) kk 0 1 1 2 (by decide) (by decide) (by decide)) $$ [Hcs HO Has]
  · isplitr; · iexact Hrec
    isplitl [Hcs]; · iexact Hcs
    isplitl [HO] <;> iassumption
  iintro ⟨HO, Has, -, Hss⟩
  iapply (waitRv_runs m K c _ _ kk 0 1 1 2 (by decide) (by decide) (by decide) (hl _)) $$ [Hcv HO Hav]
  · isplitr; · iexact Hrec
    isplitl [Hcv]; · iexact Hcv
    isplitl [HO] <;> iassumption
  iintro ⟨HO, Hav, -, Hsr, -⟩
  iapply (getT_runs c _ kk _) $$ Ht
  iintro Ht
  iapply (getC_runs c _ kk 1 _) $$ Hsr
  iintro Hsr
  iapply (getT_runs c _ kk _) $$ Ht
  iintro Ht
  ihave Hss := (slotIs_any c kk 0 _) $$ Hss
  ihave Hsr := (slotIs_any c kk 1 _) $$ Hsr
  unfold tIs tPts oRes outPts
  icases Ht with ⟨%f, -, Ht⟩
  icases Ho with ⟨⟨%fd, Ho⟩, Hz⟩
  simp only [Prog.lift]
  iapply (wp_store 𝒱₀ (c : Thread nD τ) none Set.univ (m := tM kk) (r := tR) (Mk := Finset.univ) (by
    rw [View.setOn_univ, View.set_slice]; exact View.setOn_subset_set _ _)) $$ Ht
  iintro Ht
  rw [wp_ret]; imodintro
  iapply (Transfers.wp_dmaLocal EC 𝒱₀ (c : Thread nD τ) none (src := tM kk) (dst := outM kk) (sm := .dma (oS kk)) (Sd := (outM kk).view.set)
    0 ((outM kk).view.dmaCredit) rfl (View.dmaCredit_pos _ (by decide)) (Finset.Subset.refl _)) $$ [Ht Ho Hz]
  · isplitl [Ht]; · iexact Ht
    isplitl [Ho]; · iexact Ho
    iexact Hz
  iintro Hfl
  rw [wp_ret]; imodintro
  iapply Hk
  isplitl [Has Has' Hav Hav' Hac]
  · unfold PosEnd
    isplitl [Hac]; · iexact Hac
    isplitl [Has Has']
    · isplitl [Has] <;> iassumption
    isplitl [Hav'] <;> iassumption
  isplitl [Hss Hsr]
  · isplitl [Hss] <;> iassumption
  isplitl [Hfl]
  · unfold oFly
    iexists _, fd
    isplitr
    rotate_left
    · iexact Hfl
    · ipureintro
      exact write_temp kk f _
  iexact HO

/-- The copy out is over. -/
theorem waitO_runs (kk : Fin 4) (v : Vec F S1024x1024 .f32) :
    iprop(records m K ∗ oFly c kk v ∗ Ow c [])
      ⊢ iprop(((outIs c kk v ∗ tAny c kk ∗ semVal ((c : Thread nD τ), SemLoc.dma (oS kk)) 0 ∗ Ow c []) -∗ Q ⟨⟩) -∗ Runs c (waitO kk) Q) := by
  unfold Runs waitO oFly Ow
  simp only [Prog.lift]
  iintro ⟨#Hrec, ⟨%f, %fd, %hf, Hfl⟩, ⟨%W, HO⟩⟩ Hk
  iapply (Transfers.wp_waitLocalO EC 𝒱₀ (c : Thread nD τ) none 0 (N := (outM kk).view.dmaCredit) rfl) $$ [Hfl HO]
  · isplitl [Hfl]; · iexact Hfl
    isplitl [HO]; · iexact HO
    iapply (mayWait_local c (.dma (oS kk)) (oS_local kk) [] (fun d hd => absurd hd List.not_mem_nil)); iapply (records_lev m K); iexact Hrec
  iintro ⟨⟨Ho, Ht⟩, Hs, HO⟩
  rw [wp_ret]; imodintro
  iapply Hk
  isplitl [Ho]
  · unfold outIs outPts
    iexists _
    isplitr
    rotate_left
    · iexact Ho
    · ipureintro; exact (View.read_write_univ _ _).trans hf
  isplitl [Ht]; · unfold tAny tPts; iexists f; iexact Ht
  isplitl [Hs]; · iexact Hs
  iexists _; iexact HO

end Hop

end Cert.KernelIdeal.Ring
end
-- ==== Proof.KernelIdeal.Body.lean ====
/-
# The body

A device's whole run: the barrier; the four first sends; the four hops of the second round, each with its product;
the four hops of the third; the four last products, with the result copied out; the four copies' ends.
-/
module

public import proofs.«01_k».proof.Proof.KernelIdeal.Hops

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

section Body
variable (K : Dev nD × Cl → ℕ) (c : Dev nD) (Q : PUnit → sProp (MT nD τ sig ℕ (Elt F) ℕ UU ℕ)) (l : List Due)

/-! ## The devices and chunks, as the kernel computes them -/

/-- The row at which the kernel starts to load `A` for a stream to the left is that of the stream's first chunk. -/
theorem chunk_off1 (kk : Fin 4) (h : kk.val < 2) : k0_off1 c = ![1024 * (chunk kk 0 c).val, 0] :=
  (k0_off1_eq c).trans (by rw [show (chunk kk 0 c).val = (c.val + 1) % 4 by revert h kk c; decide])
/-- The row at which the kernel starts to load `A` for a stream to the right is that of the stream's first chunk. -/
theorem chunk_off2 (kk : Fin 4) (h : ¬ kk.val < 2) : k0_off2 c = ![1024 * (chunk kk 0 c).val, 0] :=
  (k0_off2_eq c).trans (by rw [show (chunk kk 0 c).val = (c.val + 3) % 4 by revert h kk c; decide])
/-- The first round loads stream 0's second chunk, -/
theorem chunk_off30 : k0_off3 c 0#32 = ![1024 * (chunk 0 1 c).val, 0] :=
  (k0_off3_eq c 0).trans (by rw [show (chunk 0 1 c).val = (c.val + (0 : Fin 3).val + 2) % 4 by revert c; decide])
/-- the second round its third chunk, -/
theorem chunk_off31 : k0_off3 c 1#32 = ![1024 * (chunk 0 2 c).val, 0] :=
  (k0_off3_eq c 1).trans (by rw [show (chunk 0 2 c).val = (c.val + (1 : Fin 3).val + 2) % 4 by revert c; decide])
/-- for the streams to the right another third chunk, -/
theorem chunk_off4 : k0_off4 c = ![1024 * (chunk 2 2 c).val, 0] :=
  (k0_off4_eq c).trans (by rw [show (chunk 2 2 c).val = (c.val + 5) % 4 by revert c; decide])
/-- and the third round its fourth chunk. -/
theorem chunk_off32 : k0_off3 c 2#32 = ![1024 * (chunk 0 3 c).val, 0] :=
  (k0_off3_eq c 2).trans (by rw [show (chunk 0 3 c).val = (c.val + (2 : Fin 3).val + 2) % 4 by revert c; decide])
/-- The second chunk is the same for all streams, -/
theorem chunk_second (kk : Fin 4) : chunk 0 1 c = chunk kk 1 c := by revert kk c; decide
/-- the third the same for the streams to the left, -/
theorem chunk_third_l (kk : Fin 4) (h : kk.val < 2) : chunk 0 2 c = chunk kk 2 c := by revert h kk c; decide
/-- and the same for those to the right; -/
theorem chunk_third_r (kk : Fin 4) (h : ¬ kk.val < 2) : chunk 2 2 c = chunk kk 2 c := by revert h kk c; decide
/-- the fourth is the same for all streams again. -/
theorem chunk_fourth (kk : Fin 4) : chunk 0 3 c = chunk kk 3 c := by revert kk c; decide

/-! ## The blocks, each with its product -/

/-- A first send: the row chunk, the product into slot 0, the send. -/
theorem first_runs {kk : Fin 4} (hl : After 0 ((st kk (.rv 1), 0, false) :: l)) (a : Vec F S1024x2048 .f32) (off : Fin 2 → Nat)
    (h : ∀ a, off a + S1024x2048.size a ≤ S4096x2048.size a) (ho : off = ![1024 * (chunk kk 0 c).val, 0]) (n : Dev nD) (hn : n = dn kk c) :
    iprop(records m K ∗ Env m c a ∗ slotAny c kk 0 ∗ slotAny (dn kk c) kk 1 ∗ Pos0 c kk ∗ Fuel0 c kk ∗ Ow c ((st kk (.rv 1), 0, false) :: l))
      ⊢ iprop(((Env m c (chunkV m c (chunk kk 0 c)) ∗ At c kk 0 1 0 0 0 ∗ Ow c l) -∗ Q ⟨⟩)
          -∗ Runs c (loadA off h) (fun _ => Runs c (quarterI kk) (fun _ => Runs c (sendC n kk 0 1) Q))) := by
  iintro ⟨#Hrec, He, Hs, Hd, Hp, Hf, HO⟩ Hk
  iapply (loadA_runs m c _ _ hl (chunk kk 0 c) off h ho a) $$ [He HO]
  · isplitr; · iapply (records_lev m K); iexact Hrec
    isplitl [He] <;> iassumption
  iintro ⟨He, HO⟩
  iapply (quarterI_runs m c _ _ hl kk (chunk kk 0 c)) $$ [He Hs HO]
  · isplitr; · iapply (records_lev m K); iexact Hrec
    isplitl [He]; · iexact He
    isplitl [Hs] <;> iassumption
  iintro ⟨He, Hs, HO⟩
  iapply (start_runs m K c _ l kk n hn) $$ [Hs Hd Hp Hf HO]
  · isplitr; · iexact Hrec
    isplitl [Hp]; · iexact Hp
    isplitl [Hf]; · iexact Hf
    isplitl [Hs]; · iexact Hs
    isplitl [Hd] <;> iassumption
  iintro ⟨Ha, HO⟩
  iapply Hk
  isplitl [He]; · iexact He
  isplitl [Ha] <;> iassumption

/-- A product and a hop. -/
theorem next_runs (kk : Fin 4) (ss rs : Fin 2) (r r' t : ℕ) (ok : HopOK ss rs r r' t) (q : Fin 4) (hq : q = chunk kk (t + 1) c)
    (u d : Dev nD) (hu : u = up kk c) (hd : d = dn kk c)
    (hl0 : After 0 ((st kk .cr, t, false) :: (st kk (.rv ss), r', false) :: l))
    (hl1 : After (lvK (st kk (.rv rs)) r) ((st kk .cr, t, false) :: (st kk (.rv ss), r', false) :: l))
    (hl2 : After (lvK (st kk .cr) t) ((st kk (.rv ss), r', false) :: l)) :
    iprop(records m K ∗ Env m c (chunkV m c q) ∗ tAny c kk ∗ At c kk ss rs r r' t ∗ Fuel c kk ss rs r' t
        ∗ Ow c ((st kk .cr, t, false) :: (st kk (.rv ss), r', false) :: l))
      ⊢ iprop(((Env m c (chunkV m c q) ∗ tAny c kk ∗ At c kk rs ss r' (r + 1) (t + 1) ∗ Ow c l) -∗ Q ⟨⟩)
          -∗ Runs c (quarterF kk) (fun _ => Runs c (hop u d kk ss rs) Q)) := by
  subst hq
  iintro ⟨#Hrec, He, Ht, Ha, Hf, HO⟩ Hk
  iapply (quarterF_runs m c _ _ hl0 kk (chunk kk (t + 1) c)) $$ [He Ht HO]
  · isplitr; · iapply (records_lev m K); iexact Hrec
    isplitl [He]; · iexact He
    isplitl [Ht] <;> iassumption
  iintro ⟨He, Ht, HO⟩
  iapply (hop_runs m K c _ l kk ss rs r r' t ok u d hu hd hl0 hl1 hl2) $$ [Ht Ha Hf HO]
  · isplitr; · iexact Hrec
    isplitl [Ha]; · iexact Ha
    isplitl [Hf]; · iexact Hf
    isplitl [Ht] <;> iassumption
  iintro ⟨Ha, Ht, HO⟩
  iapply Hk
  isplitl [He]; · iexact He
  isplitl [Ht]; · iexact Ht
  isplitl [Ha] <;> iassumption

/-- A last product and the last hop. -/
theorem final_runs (kk q : Fin 4) (hq : q = chunk kk 3 c) :
    iprop(records m K ∗ Env m c (chunkV m c q) ∗ tAny c kk ∗ At c kk 0 1 1 1 2 ∗ oRes c kk ∗ Ow c [])
      ⊢ iprop(((Env m c (chunkV m c q) ∗ PosEnd c kk ∗ (slotAny c kk 0 ∗ slotAny c kk 1) ∗ oFly c kk (finalV m kk c) ∗ Ow c []) -∗ Q ⟨⟩)
          -∗ Runs c (quarterF kk) (fun _ => Runs c (last kk) Q)) := by
  subst hq
  iintro ⟨#Hrec, He, Ht, Ha, Ho, HO⟩ Hk
  iapply (quarterF_runs m c _ _ (fun d hd => absurd hd List.not_mem_nil) kk (chunk kk 3 c)) $$ [He Ht HO]
  · isplitr; · iapply (records_lev m K); iexact Hrec
    isplitl [He]; · iexact He
    isplitl [Ht] <;> iassumption
  iintro ⟨He, Ht, HO⟩
  iapply (last_runs m K c _ kk) $$ [Ht Ha Ho HO]
  · isplitr; · iexact Hrec
    isplitl [Ha]; · iexact Ha
    isplitl [Ht]; · iexact Ht
    isplitl [Ho] <;> iassumption
  iintro ⟨Hp, Hs, Hf, HO⟩
  iapply Hk
  isplitl [He]; · iexact He
  isplitl [Hp]; · iexact Hp
  isplitl [Hs]; · iexact Hs
  isplitl [Hf] <;> iassumption

/-! ## The whole body -/

/-- What a stream starts from and ends with. -/
def Strm (c : Dev nD) (kk : Fin 4) : sProp 𝕄 :=
  iprop((Pos0 c kk ∗ Fuel0 c kk ∗ Fuel c kk 0 1 0 0 ∗ Fuel c kk 1 0 1 1) ∗ slotAny c kk 0 ∗ slotAny c kk 1 ∗ tAny c kk ∗ oRes c kk)
def StrmEnd (c : Dev nD) (kk : Fin 4) : sProp 𝕄 :=
  iprop(PosEnd c kk ∗ (slotAny c kk 0 ∗ slotAny c kk 1) ∗ outIs c kk (finalV m kk c) ∗ tAny c kk ∗ semVal ((c : Thread nD τ), SemLoc.dma (oS kk)) 0)
/-- What the barrier uses up. -/
def Bar0 (c : Dev nD) : sProp 𝕄 :=
  iprop(dutyTok (ER (F := F)) (kcell (prv c) bar) 0 true ∗ dutyTok (ER (F := F)) (kcell (nxt c) bar) 0 false
    ∗ cred (tallyAt (kcell c bar) 0 2) ∗ atPos (ER (F := F)) (kcell c bar) 0 ∅ 0)

set_option maxHeartbeats 1600000 in
/-- A device's run, from what it starts with to what it leaves: every quarter of its result holds its value. -/
theorem body_runs (a : Vec F S1024x2048 .f32) :
    iprop(records m K ∗ Env m c a ∗ Bar0 c ∗ (Strm c 0 ∗ Strm c 1 ∗ Strm c 2 ∗ Strm c 3) ∗ Ow c dues)
      ⊢ iprop(((Env m c (chunkV m c (chunk 0 3 c)) ∗ atPos (ER (F := F)) (kcell c bar) 1 ∅ 0
            ∗ (StrmEnd m c 0 ∗ StrmEnd m c 1 ∗ StrmEnd m c 2 ∗ StrmEnd m c 3) ∗ Ow c []) -∗ Q ⟨⟩)
          -∗ Runs c body Q) := by
  unfold Runs body Strm Bar0
  simp only [wp_bind]
  iintro ⟨#Hrec, He, ⟨Htp, Htn, Hcb, Hab⟩, ⟨⟨⟨Hp0, Hf0, Hg0, Hh0⟩, Hs0, Hl0, Ht0, Ho0⟩, ⟨⟨Hp1, Hf1, Hg1, Hh1⟩, Hs1, Hl1, Ht1, Ho1⟩,
    ⟨⟨Hp2, Hf2, Hg2, Hh2⟩, Hs2, Hl2, Ht2, Ho2⟩, ⟨⟨Hp3, Hf3, Hg3, Hh3⟩, Hs3, Hl3, Ht3, Ho3⟩⟩, HO⟩ Hk
  simp only [Prog.lift, wp_deviceId, wp_ret]
  imodintro
  iapply (barrier_runs m K c _ (left0 4)
    (by decide) _ _ (Fin.ext (k0_dev1_eq c)) (Fin.ext (k0_dev2_eq c))) $$ [HO Htp Htn Hl0 Hl1 Hl2 Hl3 Hcb Hab]
  · isplitr; · iexact Hrec
    isplitl [HO]; · iexact HO
    isplitl [Htp]; · iexact Htp
    isplitl [Htn]; · iexact Htn
    isplitl [Hl2 Hl3]
    · isplitl [Hl2] <;> iassumption
    isplitl [Hl0 Hl1]
    · isplitl [Hl0] <;> iassumption
    isplitl [Hcb] <;> iassumption
  iintro ⟨HO, Hab, ⟨Hl0, Hl1⟩, ⟨Hl2, Hl3⟩⟩
  iapply (first_runs m K c _ (left0 3) (kk := 0) (by decide) a _ _ (chunk_off1 c 0 (by decide)) _ (Fin.ext (k0_dev3_eq c))) $$ [He Hs0 Hl0 Hp0 Hf0 HO]
  · isplitr; · iexact Hrec
    isplitl [He]; · iexact He
    isplitl [Hs0]; · iexact Hs0
    isplitl [Hl0]; · iexact Hl0
    isplitl [Hp0]; · iexact Hp0
    isplitl [Hf0]; · iexact Hf0
    iexact HO
  iintro ⟨He, Ha0, HO⟩
  iapply (first_runs m K c _ (left0 2) (kk := 2) (by decide) _ _ _ (chunk_off2 c 2 (by decide)) _ (Fin.ext (k0_dev4_eq c))) $$ [He Hs2 Hl2 Hp2 Hf2 HO]
  · isplitr; · iexact Hrec
    isplitl [He]; · iexact He
    isplitl [Hs2]; · iexact Hs2
    isplitl [Hl2]; · iexact Hl2
    isplitl [Hp2]; · iexact Hp2
    isplitl [Hf2]; · iexact Hf2
    iexact HO
  iintro ⟨He, Ha2, HO⟩
  iapply (first_runs m K c _ (left0 1) (kk := 1) (by decide) _ _ _ (chunk_off1 c 1 (by decide)) _ (Fin.ext (k0_dev5_eq c))) $$ [He Hs1 Hl1 Hp1 Hf1 HO]
  · isplitr; · iexact Hrec
    isplitl [He]; · iexact He
    isplitl [Hs1]; · iexact Hs1
    isplitl [Hl1]; · iexact Hl1
    isplitl [Hp1]; · iexact Hp1
    isplitl [Hf1]; · iexact Hf1
    iexact HO
  iintro ⟨He, Ha1, HO⟩
  iapply (first_runs m K c _ (left0 0) (kk := 3) (by decide) _ _ _ (chunk_off2 c 3 (by decide)) _ (Fin.ext (k0_dev6_eq c))) $$ [He Hs3 Hl3 Hp3 Hf3 HO]
  · isplitr; · iexact Hrec
    isplitl [He]; · iexact He
    isplitl [Hs3]; · iexact Hs3
    isplitl [Hl3]; · iexact Hl3
    isplitl [Hp3]; · iexact Hp3
    isplitl [Hf3]; · iexact Hf3
    iexact HO
  iintro ⟨He, Ha3, HO⟩
  iapply (loadA_runs m c _ (left1 4) (by decide) (chunk 0 1 c) _ _ (chunk_off30 c) _) $$ [He HO]
  · isplitr; · iapply (records_lev m K); iexact Hrec
    isplitl [He]; · iexact He
    iexact HO
  iintro ⟨He, HO⟩
  iapply (next_runs m K c _ (left1 3) 0 0 1 0 0 0 (by decide) _ (chunk_second c 0) _ _ (Fin.ext (k0_dev7_eq c)) (Fin.ext (k0_dev8_eq c)) (by decide) (by decide) (by decide))
    $$ [He Ht0 Ha0 Hg0 HO]
  · isplitr; · iexact Hrec
    isplitl [He]; · iexact He
    isplitl [Ht0]; · iexact Ht0
    isplitl [Ha0]; · iexact Ha0
    isplitl [Hg0]; · iexact Hg0
    iexact HO
  iintro ⟨He, Ht0, Ha0, HO⟩
  iapply (next_runs m K c _ (left1 2) 1 0 1 0 0 0 (by decide) _ (chunk_second c 1) _ _ (Fin.ext (k0_dev9_eq c)) (Fin.ext (k0_dev10_eq c)) (by decide) (by decide) (by decide))
    $$ [He Ht1 Ha1 Hg1 HO]
  · isplitr; · iexact Hrec
    isplitl [He]; · iexact He
    isplitl [Ht1]; · iexact Ht1
    isplitl [Ha1]; · iexact Ha1
    isplitl [Hg1]; · iexact Hg1
    iexact HO
  iintro ⟨He, Ht1, Ha1, HO⟩
  iapply (next_runs m K c _ (left1 1) 2 0 1 0 0 0 (by decide) _ (chunk_second c 2) _ _ (Fin.ext (k0_dev11_eq c)) (Fin.ext (k0_dev12_eq c)) (by decide) (by decide) (by decide))
    $$ [He Ht2 Ha2 Hg2 HO]
  · isplitr; · iexact Hrec
    isplitl [He]; · iexact He
    isplitl [Ht2]; · iexact Ht2
    isplitl [Ha2]; · iexact Ha2
    isplitl [Hg2]; · iexact Hg2
    iexact HO
  iintro ⟨He, Ht2, Ha2, HO⟩
  iapply (next_runs m K c _ (left1 0) 3 0 1 0 0 0 (by decide) _ (chunk_second c 3) _ _ (Fin.ext (k0_dev13_eq c)) (Fin.ext (k0_dev14_eq c)) (by decide) (by decide) (by decide))
    $$ [He Ht3 Ha3 Hg3 HO]
  · isplitr; · iexact Hrec
    isplitl [He]; · iexact He
    isplitl [Ht3]; · iexact Ht3
    isplitl [Ha3]; · iexact Ha3
    isplitl [Hg3]; · iexact Hg3
    iexact HO
  iintro ⟨He, Ht3, Ha3, HO⟩
  iapply (loadA_runs m c _ (left2 4) (by decide) (chunk 0 2 c) _ _ (chunk_off31 c) _) $$ [He HO]
  · isplitr; · iapply (records_lev m K); iexact Hrec
    isplitl [He]; · iexact He
    iexact HO
  iintro ⟨He, HO⟩
  iapply (next_runs m K c _ (left2 3) 0 1 0 0 1 1 (by decide) _ (chunk_third_l c 0 (by decide)) _ _ (Fin.ext (k0_dev15_eq c)) (Fin.ext (k0_dev16_eq c)) (by decide) (by decide) (by decide))
    $$ [He Ht0 Ha0 Hh0 HO]
  · isplitr; · iexact Hrec
    isplitl [He]; · iexact He
    isplitl [Ht0]; · iexact Ht0
    isplitl [Ha0]; · iexact Ha0
    isplitl [Hh0]; · iexact Hh0
    iexact HO
  iintro ⟨He, Ht0, Ha0, HO⟩
  iapply (next_runs m K c _ (left2 2) 1 1 0 0 1 1 (by decide) _ (chunk_third_l c 1 (by decide)) _ _ (Fin.ext (k0_dev17_eq c)) (Fin.ext (k0_dev18_eq c)) (by decide) (by decide) (by decide))
    $$ [He Ht1 Ha1 Hh1 HO]
  · isplitr; · iexact Hrec
    isplitl [He]; · iexact He
    isplitl [Ht1]; · iexact Ht1
    isplitl [Ha1]; · iexact Ha1
    isplitl [Hh1]; · iexact Hh1
    iexact HO
  iintro ⟨He, Ht1, Ha1, HO⟩
  iapply (loadA_runs m c _ (left2 2) (by decide) (chunk 2 2 c) _ _ (chunk_off4 c) _) $$ [He HO]
  · isplitr; · iapply (records_lev m K); iexact Hrec
    isplitl [He]; · iexact He
    iexact HO
  iintro ⟨He, HO⟩
  iapply (next_runs m K c _ (left2 1) 2 1 0 0 1 1 (by decide) _ (chunk_third_r c 2 (by decide)) _ _ (Fin.ext (k0_dev19_eq c)) (Fin.ext (k0_dev20_eq c)) (by decide) (by decide) (by decide))
    $$ [He Ht2 Ha2 Hh2 HO]
  · isplitr; · iexact Hrec
    isplitl [He]; · iexact He
    isplitl [Ht2]; · iexact Ht2
    isplitl [Ha2]; · iexact Ha2
    isplitl [Hh2]; · iexact Hh2
    iexact HO
  iintro ⟨He, Ht2, Ha2, HO⟩
  iapply (next_runs m K c _ (left2 0) 3 1 0 0 1 1 (by decide) _ (chunk_third_r c 3 (by decide)) _ _ (Fin.ext (k0_dev21_eq c)) (Fin.ext (k0_dev22_eq c)) (by decide) (by decide) (by decide))
    $$ [He Ht3 Ha3 Hh3 HO]
  · isplitr; · iexact Hrec
    isplitl [He]; · iexact He
    isplitl [Ht3]; · iexact Ht3
    isplitl [Ha3]; · iexact Ha3
    isplitl [Hh3]; · iexact Hh3
    iexact HO
  iintro ⟨He, Ht3, Ha3, HO⟩
  iapply (loadA_runs m c _ ([]) (by decide) (chunk 0 3 c) _ _ (chunk_off32 c) _) $$ [He HO]
  · isplitr; · iapply (records_lev m K); iexact Hrec
    isplitl [He]; · iexact He
    iexact HO
  iintro ⟨He, HO⟩
  iapply (final_runs m K c _ 0 _ (chunk_fourth c 0)) $$ [He Ht0 Ha0 Ho0 HO]
  · isplitr; · iexact Hrec
    isplitl [He]; · iexact He
    isplitl [Ht0]; · iexact Ht0
    isplitl [Ha0]; · iexact Ha0
    isplitl [Ho0]; · iexact Ho0
    iexact HO
  iintro ⟨He, Hp0, Hs0, Ho0, HO⟩
  iapply (final_runs m K c _ 1 _ (chunk_fourth c 1)) $$ [He Ht1 Ha1 Ho1 HO]
  · isplitr; · iexact Hrec
    isplitl [He]; · iexact He
    isplitl [Ht1]; · iexact Ht1
    isplitl [Ha1]; · iexact Ha1
    isplitl [Ho1]; · iexact Ho1
    iexact HO
  iintro ⟨He, Hp1, Hs1, Ho1, HO⟩
  iapply (final_runs m K c _ 2 _ (chunk_fourth c 2)) $$ [He Ht2 Ha2 Ho2 HO]
  · isplitr; · iexact Hrec
    isplitl [He]; · iexact He
    isplitl [Ht2]; · iexact Ht2
    isplitl [Ha2]; · iexact Ha2
    isplitl [Ho2]; · iexact Ho2
    iexact HO
  iintro ⟨He, Hp2, Hs2, Ho2, HO⟩
  iapply (final_runs m K c _ 3 _ (chunk_fourth c 3)) $$ [He Ht3 Ha3 Ho3 HO]
  · isplitr; · iexact Hrec
    isplitl [He]; · iexact He
    isplitl [Ht3]; · iexact Ht3
    isplitl [Ha3]; · iexact Ha3
    isplitl [Ho3]; · iexact Ho3
    iexact HO
  iintro ⟨He, Hp3, Hs3, Ho3, HO⟩
  iapply (waitO_runs m K c _ 0 _) $$ [Ho0 HO]
  · isplitr; · iexact Hrec
    isplitl [Ho0]; · iexact Ho0
    iexact HO
  iintro ⟨Ho0, Ht0, Hz0, HO⟩
  iapply (waitO_runs m K c _ 1 _) $$ [Ho1 HO]
  · isplitr; · iexact Hrec
    isplitl [Ho1]; · iexact Ho1
    iexact HO
  iintro ⟨Ho1, Ht1, Hz1, HO⟩
  iapply (waitO_runs m K c _ 2 _) $$ [Ho2 HO]
  · isplitr; · iexact Hrec
    isplitl [Ho2]; · iexact Ho2
    iexact HO
  iintro ⟨Ho2, Ht2, Hz2, HO⟩
  iapply (waitO_runs m K c _ 3 _) $$ [Ho3 HO]
  · isplitr; · iexact Hrec
    isplitl [Ho3]; · iexact Ho3
    iexact HO
  iintro ⟨Ho3, Ht3, Hz3, HO⟩
  iapply Hk
  unfold StrmEnd
  isplitl [He]; · iexact He
  isplitl [Hab]; · iexact Hab
  isplitr [HO]
  · isplitl [Hp0 Hs0 Ho0 Ht0 Hz0]
    · isplitl [Hp0]; · iexact Hp0
      isplitl [Hs0]; · iexact Hs0
      isplitl [Ho0]; · iexact Ho0
      isplitl [Ht0] <;> iassumption
    isplitl [Hp1 Hs1 Ho1 Ht1 Hz1]
    · isplitl [Hp1]; · iexact Hp1
      isplitl [Hs1]; · iexact Hs1
      isplitl [Ho1]; · iexact Ho1
      isplitl [Ht1] <;> iassumption
    isplitl [Hp2 Hs2 Ho2 Ht2 Hz2]
    · isplitl [Hp2]; · iexact Hp2
      isplitl [Hs2]; · iexact Hs2
      isplitl [Ho2]; · iexact Ho2
      isplitl [Ht2] <;> iassumption
    isplitl [Hp3]; · iexact Hp3
    isplitl [Hs3]; · iexact Hs3
    isplitl [Ho3]; · iexact Ho3
    isplitl [Ht3] <;> iassumption
  iexact HO

end Body

end Cert.KernelIdeal.Ring
end
-- ==== Proof.KernelIdeal.Fund.lean ====
/-
# What the devices start with

The launch mints the ring's cells, their rounds' positions and every duty's token once for the machine; this module
deals them: a token goes to the device that pays the duty, and what the devices owe becomes what their waits may
count on.
-/
module

public import proofs.«01_k».proof.Proof.KernelIdeal.Body

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Splitting products over the cells -/

omit [FloatOps F] in
/-- A separating conjunction over four streams, written out. -/
theorem fin4_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A separating conjunction over the roles of a stream's semaphores, written out. -/
theorem role_eq (Φ : Role → sProp 𝕄) : bigSep Finset.univ Φ = iprop(Φ .cr ∗ Φ (.sd 0) ∗ Φ (.sd 1) ∗ Φ (.rv 0) ∗ Φ (.rv 1)) :=
  bigSep_univ_eq_bigSepL [Role.cr, Role.sd 0, Role.sd 1, Role.rv 0, Role.rv 1] (by decide) (by decide) Φ
omit [FloatOps F] in
/-- Over the cells: the barrier's, then stream by stream. -/
theorem cells_eq (Φ : Cl → sProp 𝕄) : bigSep Finset.univ Φ
    = iprop(Φ bar ∗ bigSep Finset.univ fun kk : Fin 4 => iprop(Φ (st kk .cr) ∗ Φ (st kk (.sd 0)) ∗ Φ (st kk (.sd 1)) ∗ Φ (st kk (.rv 0)) ∗ Φ (st kk (.rv 1)))) := by
  rw [bigSep_univ_sum, bigSep_univ_of_subsingleton (), bigSep_univ_prod, bigSep_congr fun kk _ => role_eq _]
  rfl

/-! ## The cells and their tokens -/

/-- Two devices' cells are different, and so are two cells of one device. -/
theorem kcell_inj : Function.Injective (fun p : Dev nD × Cl => kcell p.1 p.2) := by
  rintro ⟨c, k⟩ ⟨c', k'⟩ h
  have h1 : c = c' := congrArg (fun g : GSem nD τ sig => g.1.1) h
  have h2 : k = k' := ksem_inj (congrArg Prod.snd h)
  rw [h1, h2]
def ringCells : Finset (GSem nD τ sig) := Finset.univ.map ⟨fun p : Dev nD × Cl => kcell p.1 p.2, kcell_inj⟩

/-- The duties of a stream's cells on one device, and of the barrier. -/
def tokR : Fin 8 → Role × ℕ
  | 0 => (.sd 0, 0) | 1 => (.rv 1, 0) | 2 => (.cr, 0) | 3 => (.sd 1, 0) | 4 => (.rv 0, 0) | 5 => (.cr, 1) | 6 => (.sd 0, 1) | 7 => (.rv 1, 1)
abbrev Tk : Type := Bool ⊕ (Fin 4 × Fin 8)
def tokK : Tk → Cl × ℕ × Bool
  | .inl b => (bar, 0, b)
  | .inr (kk, j) => (st kk (tokR j).1, (tokR j).2, false)
/-- Different tokens stand for different duties of a device, -/
theorem tokK_inj : Function.Injective tokK := by decide +kernel
abbrev tokOf (p : Dev nD × Tk) : GSem nD τ sig × ℕ × Bool := (kcell p.1 (tokK p.2).1, (tokK p.2).2.1, (tokK p.2).2.2)
/-- and for different duties of the mesh. -/
theorem tokOf_inj : Function.Injective tokOf := by
  rintro ⟨c, k⟩ ⟨c', k'⟩ h
  have h1 : ((c, (tokK k).1) : Dev nD × Cl) = (c', (tokK k').1) := kcell_inj (congrArg Prod.fst h)
  have h2 : tokK k = tokK k' := Prod.ext (congrArg Prod.snd h1) (congrArg (fun x : GSem nD τ sig × ℕ × Bool => x.2) h)
  exact Prod.ext (show c = c' from congrArg Prod.fst h1) (tokK_inj h2)
def ringToks : Finset (GSem nD τ sig × ℕ × Bool) := Finset.univ.map ⟨tokOf, tokOf_inj⟩

/-- The device that holds the cell of which a device pays the duty. -/
def mvR (kk : Fin 4) : Role → (Dev nD ≃ Dev nD)
  | .cr => (dnE kk).symm
  | .sd _ => Equiv.refl _
  | .rv _ => dnE kk
def mv : Tk → (Dev nD ≃ Dev nD)
  | .inl b => if b then ringE.symm else ringE
  | .inr (kk, j) => mvR kk (tokR j).1
def mvE : Dev nD × Tk ≃ Dev nD × Tk where
  toFun p := (mv p.2 p.1, p.2)
  invFun p := ((mv p.2).symm p.1, p.2)
  left_inv p := by simp only [Equiv.symm_apply_apply]
  right_inv p := by simp only [Equiv.apply_symm_apply]

abbrev tok (p : Dev nD × Tk) : sProp 𝕄 := dutyTok (ER (F := F)) (tokOf p).1 (tokOf p).2.1 (tokOf p).2.2

/-- The tokens a device pays a stream's duties with. -/
def payToks (c : Dev nD) (kk : Fin 4) : sProp 𝕄 :=
  iprop(dutyTok (ER (F := F)) (kcell c (st kk (.sd 0))) 0 false ∗ dutyTok (ER (F := F)) (kcell (dn kk c) (st kk (.rv 1))) 0 false
    ∗ dutyTok (ER (F := F)) (kcell (up kk c) (st kk .cr)) 0 false ∗ dutyTok (ER (F := F)) (kcell c (st kk (.sd 1))) 0 false
    ∗ dutyTok (ER (F := F)) (kcell (dn kk c) (st kk (.rv 0))) 0 false ∗ dutyTok (ER (F := F)) (kcell (up kk c) (st kk .cr)) 1 false
    ∗ dutyTok (ER (F := F)) (kcell c (st kk (.sd 0))) 1 false ∗ dutyTok (ER (F := F)) (kcell (dn kk c) (st kk (.rv 1))) 1 false)

omit [FloatOps F] in
/-- All tokens, dealt to the devices that pay. -/
theorem toks_dealt : bigSep ringToks (fun x => (dutyTok (ER (F := F)) x.1 x.2.1 x.2.2 : sProp 𝕄))
    = bigSep Finset.univ fun c : Dev nD => iprop((dutyTok (ER (F := F)) (kcell (nxt c) bar) 0 false ∗ dutyTok (ER (F := F)) (kcell (prv c) bar) 0 true)
        ∗ bigSep Finset.univ fun kk : Fin 4 => payToks c kk) := by
  unfold ringToks
  rw [bigSep_map, bigSep_univ_equiv mvE, bigSep_univ_prod]
  refine bigSep_congr fun c _ => ?_
  rw [bigSep_univ_sum, bigSep_univ_prod, bigSep_univ_eq_bigSepL [false, true] (by decide) (by decide), bigSepL_cons_cons, bigSepL_singleton]
  refine congrArg₂ _ rfl (bigSep_congr fun kk _ => ?_)
  rw [bigSep_univ_eq_bigSepL [0, 1, 2, 3, 4, 5, 6, 7] (by decide) (by decide)]
  rfl

/-! ## Minting -/

/-- What the launch deals device `c`. -/
def G (c : Dev nD) : sProp 𝕄 :=
  iprop((bigSep Finset.univ fun k : Cl => roundState ER (sched m) (kcell c k) 0)
    ∗ (bigSep Finset.univ fun k : Cl => iprop(atPos (ER (F := F)) (kcell c k) 0 ∅ 0 ∗ reached (ER (F := F)) (kcell c k) 0))
    ∗ (dutyTok (ER (F := F)) (kcell (nxt c) bar) 0 false ∗ dutyTok (ER (F := F)) (kcell (prv c) bar) 0 true)
    ∗ bigSep Finset.univ fun kk : Fin 4 => payToks c kk)

/-- The protocol's initial element is every device's round states, positions and tokens. -/
theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (kcell c k) := by
    unfold ringCells; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq toks_dealt) $$ Htok
  unfold G
  simp only [bigSep_sep']
  icases Htok with ⟨Ht, Hp⟩
  isplitl [Hst]; · iexact Hst
  isplitl [Hat Hr]
  · isplitl [Hat]; · iexact Hat
    iexact Hr
  isplitl [Ht]; · iexact Ht
  iexact Hp

/-! ## The semaphores at launch -/

/-- The semaphores of the local copies. -/
abbrev Lc : Type := Unit ⊕ (Fin 2 ⊕ Fin 4)
abbrev lsem : Lc → SemLoc sig
  | .inl _ => .dma aS
  | .inr (.inl j) => .dma (bS j)
  | .inr (.inr kk) => .dma (oS kk)
/-- The kernel's own semaphores. -/
abbrev osem : (Fin 4 × Role) ⊕ Lc → SemLoc sig
  | .inl p => rsem p.1 p.2
  | .inr l => lsem l

/-- The kernel's own semaphores are the streams' and the local copies', each listed once. -/
theorem ownSemFacts : Pipeline.OwnSemFacts cfg0.spec osem := by decide +kernel

/-- A device's local semaphores at zero. -/
def locals (c : Dev nD) : sProp 𝕄 := bigSep Finset.univ fun l : Lc => semVal ((c : Thread nD τ), lsem l) 0

omit [FloatOps F] in
/-- The only semaphore that outlives the kernel is the barrier's. -/
theorem unscopedSems_eq (c : Dev nD) : (unscopedSems0 c : sProp 𝕄) = semVal (kcell c bar) 0 := by
  unfold unscopedSems0; rw [bigSep_eq_bigSepL_of_eq [SemLoc.reg barS] (by decide +kernel) (by decide)]; rfl
omit [FloatOps F] in
/-- The kernel's own semaphores are the streams' and the local ones. -/
theorem ownSems_eq (c : Dev nD) : (Pipeline.ownSems0 (Ix := ℕ) (Name := ℕ) (U := UU) (Lvl := ℕ) (Val := Elt F) (τ := τ) osem c : sProp 𝕄)
    = iprop((bigSep Finset.univ fun p : Fin 4 × Role => semVal (kcell c (.inr p)) 0) ∗ locals c) := by
  unfold Pipeline.ownSems0 locals; rw [bigSep_univ_sum]; rfl
omit [FloatOps F] in
/-- All of a device's semaphores are its cells and its local ones. -/
theorem sems_eq (c : Dev nD) :
    iprop(Pipeline.ownSems0 (Ix := ℕ) (Name := ℕ) (U := UU) (Lvl := ℕ) (Val := Elt F) (τ := τ) osem c ∗ unscopedSems0 c)
      ⊢ (iprop((bigSep Finset.univ fun k : Cl => semVal (kcell c k) 0) ∗ locals c) : sProp 𝕄) := by
  rw [ownSems_eq, unscopedSems_eq, bigSep_univ_sum, bigSep_univ_of_subsingleton ()]
  show _ ⊢ iprop((semVal (kcell c bar) 0 ∗ bigSep Finset.univ fun p : Fin 4 × Role => semVal (kcell c (.inr p)) 0) ∗ locals c)
  iintro ⟨⟨HS, HL⟩, HB⟩
  isplitr [HL]
  · isplitl [HB]; · iexact HB
    iexact HS
  iexact HL

/-! ## The global step -/

/-- The cells' invariants under the names `K`, and that round 0 of each is reached. -/
def books (K : Dev nD × Cl → ℕ) : sProp 𝕄 :=
  iprop(bigSep Finset.univ (fun p : Dev nD × Cl => cellInv ER (sched m) (K p) (kcell p.1 p.2))
    ∗ bigSep Finset.univ (fun p : Dev nD × Cl => reached (ER (F := F)) (kcell p.1 p.2) 0))
instance books_persistent (K : Dev nD × Cl → ℕ) : BI.Persistent (books m K) := by unfold books; infer_instance

/-- What device `c` alone holds of the ring: its positions and the tokens it pays with, and its local semaphores. -/
def mine (c : Dev nD) : sProp 𝕄 :=
  iprop((bigSep Finset.univ fun k : Cl => atPos (ER (F := F)) (kcell c k) 0 ∅ 0)
    ∗ ((dutyTok (ER (F := F)) (kcell (nxt c) bar) 0 false ∗ dutyTok (ER (F := F)) (kcell (prv c) bar) 0 true)
      ∗ bigSep Finset.univ fun kk : Fin 4 => payToks c kk) ∗ locals c)
def G' (c : Dev nD) : sProp 𝕄 := iprop(∃ K, books m K ∗ mine c)

/-- A device's semaphores at zero and its round states become its cells' invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (kcell c k)))
          ∗ (bigSep Finset.univ fun k : Cl => reached (ER (F := F)) (kcell c k) 0) ∗ mine c) := by
  unfold G mine
  rw [bigSep_sep']
  iintro ⟨Hos, Hus, Hst, ⟨Hat, Hr⟩, Htok⟩
  ihave Hv := (sems_eq (F := F) c) $$ [Hos Hus]
  · isplitl [Hos] <;> iassumption
  icases Hv with ⟨Hv, HL⟩
  imod (show iprop((bigSep Finset.univ fun k : Cl => semVal (kcell c k) 0) ∗ bigSep Finset.univ fun k : Cl => roundState ER (sched m) (kcell c k) 0)
      ⊢ (|={Set.univ}=> bigSep Finset.univ fun k => iprop(∃ κ : ℕ, cellInv ER (sched m) κ (kcell c k)) : sProp 𝕄) from by
        rw [← bigSep_sep']
        exact (bigSep_mono fun k _ => (Rounds.body_intro ER (sched m) (kcell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

/-- What each device has made becomes records that all share, beside what is the device's own. -/
theorem regroup :
    (bigSep Finset.univ fun c : Dev nD => iprop((bigSep Finset.univ fun k : Cl => iprop(∃ κ : ℕ, cellInv ER (sched m) κ (kcell c k)))
          ∗ (bigSep Finset.univ fun k : Cl => reached (ER (F := F)) (kcell c k) 0) ∗ mine c) : sProp 𝕄)
      ⊢ bigSep Finset.univ (G' m) := by
  rw [bigSep_sep', bigSep_sep', ← bigSep_univ_prod (fun p : Dev nD × Cl => iprop(∃ κ : ℕ, cellInv ER (sched m) κ (kcell p.1 p.2))),
    ← bigSep_univ_prod (fun p : Dev nD × Cl => (reached (ER (F := F)) (kcell p.1 p.2) 0 : sProp 𝕄))]
  iintro ⟨HI, #HR, Hm⟩
  ihave HK := (BI.bigSep_exists_pi Finset.univ (fun (p : Dev nD × Cl) (κ : ℕ) => (cellInv ER (sched m) κ (kcell p.1 p.2) : sProp 𝕄))) $$ HI
  icases HK with ⟨%K, #HI⟩
  iapply ((sep_mono_left (BI.bigSep_of_persistent Finset.univ (books m K))).trans (by
    rw [← bigSep_sep']
    exact bigSep_mono fun c _ => show iprop(books m K ∗ mine c) ⊢ G' m c from by unfold G'; iintro H; iexists K; iexact H))
  isplitr
  · unfold books; isplitl
    · iexact HI
    · iexact HR
  · iexact Hm

/-- From the semaphores at zero and the initial element to the shared records and each device's own part. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the waits may count on -/

/-- Whose cell a debt is, as a permutation of the devices. -/
def tgtE : Due → (Dev nD ≃ Dev nD)
  | (.inl _, _, d) => if d then ringE.symm else ringE
  | (.inr (kk, r), _) => mvR kk r
/-- The permutation of the devices that belongs to a due is the due's addressee. -/
theorem tgtE_apply (d : Dev nD) (x : Due) : tgtE x d = tgt d x := by
  rcases x with ⟨_ | ⟨kk, _ | s | s⟩, i, b⟩
  · cases b <;> rfl
  all_goals rfl

/-- How many of the debts `l` are of round `i` of the cell `k`. -/
def cnt (k : Cl) (i : ℕ) : List Due → ℕ
  | [] => 0
  | x :: l => cnt k i l + if k = x.1 ∧ i = x.2.1 then 1 else 0

omit [FloatOps F] in
/-- What all devices together owe a cell. -/
theorem owed_sum (c : Dev nD) (k : Cl) (i : ℕ) (l : List Due) : ∑ d : Dev nD, owedOf d l (kcell c k) i = cnt k i l * amountK k := by
  induction l with
  | nil => simp [owedOf, cnt]
  | cons x l ih =>
    have hx : ∑ d : Dev nD, (tallyAt (kcell (tgt d x) x.1) x.2.1 (amountK x.1) : CellTallies nD τ sig ℕ) (kcell c k) i
        = if k = x.1 ∧ i = x.2.1 then amountK k else 0 := by
      rw [Finset.sum_eq_single ((tgtE x).symm c)]
      · rw [← tgtE_apply, Equiv.apply_symm_apply, tallyAt_apply]
        by_cases h : k = x.1 ∧ i = x.2.1
        · rw [if_pos h, if_pos ⟨by rw [h.1], h.2⟩, h.1]
        · rw [if_neg h, if_neg fun e => h ⟨ksem_inj (congrArg Prod.snd e.1), e.2⟩]
      · intro d _ hd
        rw [tallyAt_apply, if_neg]
        rintro ⟨e, _⟩
        have e1 : c = tgt d x := congrArg (fun g : GSem nD τ sig => g.1.1) e
        exact hd (by rw [e1, ← tgtE_apply, Equiv.symm_apply_apply])
      · intro h; exact absurd (Finset.mem_univ _) h
    have hs : ∀ d : Dev nD, owedOf d (x :: l) (kcell c k) i
        = owedOf d l (kcell c k) i + (tallyAt (kcell (tgt d x) x.1) x.2.1 (amountK x.1) : CellTallies nD τ sig ℕ) (kcell c k) i := fun d => rfl
    rw [Finset.sum_congr rfl fun d _ => hs d, Finset.sum_add_distrib, ih, hx]
    show _ = (cnt k i l + if k = x.1 ∧ i = x.2.1 then 1 else 0) * amountK k
    rw [Nat.add_mul]
    congr 1
    split <;> simp

/-- No due names a round beyond the second. -/
theorem cnt_big (k : Cl) (i : ℕ) (h : 2 ≤ i) : cnt k i dues = 0 := by
  have hl : ∀ l : List Due, (∀ x ∈ l, x.2.1 < 2) → cnt k i l = 0 := by
    intro l
    induction l with
    | nil => intro _; rfl
    | cons x l ih =>
      intro hx
      unfold cnt
      rw [ih fun y hy => hx y (List.mem_cons_of_mem _ hy), if_neg fun e => by have := hx x List.mem_cons_self; omega]
  exact hl dues (by decide)

omit [FloatOps F] in
/-- A cell's launch credit, round by round. -/
theorem credit_eq (c : Dev nD) (k : Cl) :
    tallyOn (kcell c k) (launchCredit (Pipeline.owing fun d => owedOf d dues) 0 (kcell c k))
      = (tallyAt (kcell c k) 0 (cnt k 0 dues * amountK k) + tallyAt (kcell c k) 1 (cnt k 1 dues * amountK k) : CellTallies nD τ sig ℕ) := by
  unfold tallyAt tallyOn
  rw [← Pi.single_add]
  refine congrArg _ (Finsupp.ext fun i => ?_)
  rw [Pipeline.launchCredit_owing, owed_sum, Finsupp.add_apply]
  match i with
  | 0 => rw [Finsupp.single_eq_same, Finsupp.single_eq_of_ne (by decide), Nat.add_zero]
  | 1 => rw [Finsupp.single_eq_same, Finsupp.single_eq_of_ne (by decide), Nat.zero_add]
  | i + 2 => rw [cnt_big k (i + 2) (by omega), Finsupp.single_eq_of_ne (by omega), Finsupp.single_eq_of_ne (by omega), Nat.zero_mul, Nat.add_zero]

/-- A device's right to wait, cell by cell. -/
def creditOf (c : Dev nD) (k : Cl) : sProp 𝕄 :=
  iprop(cred (tallyAt (kcell c k) 0 (cnt k 0 dues * amountK k)) ∗ cred (tallyAt (kcell c k) 1 (cnt k 1 dues * amountK k)))

omit [FloatOps F] in
/-- The credit that the launch deals out for the dues is each cell's credit. -/
theorem creds (c : Dev nD) : (Pipeline.launchCred (fun d => owedOf d dues) c : sProp 𝕄) ⊢ bigSep Finset.univ fun k : Cl => creditOf c k := by
  unfold Pipeline.launchCred
  refine (bigSep_subset (Finset.subset_univ (Finset.univ.map ⟨ksem, ksem_inj⟩))).trans ?_
  rw [bigSep_map]
  refine bigSep_mono fun k _ => ?_
  refine (Entails.of_eq (congrArg cred (credit_eq c k))).trans ?_
  exact (cred_add _ _).1

/-- A stream's waits; the barrier's. -/
theorem cnt_st : ∀ kk : Fin 4, cnt (st kk .cr) 0 dues = 1 ∧ cnt (st kk .cr) 1 dues = 1 ∧ cnt (st kk (.rv 0)) 0 dues = 1
    ∧ cnt (st kk (.rv 1)) 0 dues = 1 ∧ cnt (st kk (.rv 1)) 1 dues = 1 := by decide
/-- Two dues go to the barrier. -/
theorem cnt_bar : cnt bar 0 dues = 2 := by decide

/-! ## One device's share -/

/-- The ghost state a stream starts from. -/
def ghostS (c : Dev nD) (kk : Fin 4) : sProp 𝕄 := iprop(Pos0 c kk ∗ Fuel0 c kk ∗ Fuel c kk 0 1 0 0 ∗ Fuel c kk 1 0 1 1)

/-- A stream's positions, tokens and credits, sorted by the hops that use them. -/
theorem ghost_stream (c : Dev nD) (kk : Fin 4) :
    iprop((atPos (ER (F := F)) (kcell c (st kk .cr)) 0 ∅ 0 ∗ atPos (ER (F := F)) (kcell c (st kk (.sd 0))) 0 ∅ 0 ∗ atPos (ER (F := F)) (kcell c (st kk (.sd 1))) 0 ∅ 0
          ∗ atPos (ER (F := F)) (kcell c (st kk (.rv 0))) 0 ∅ 0 ∗ atPos (ER (F := F)) (kcell c (st kk (.rv 1))) 0 ∅ 0)
        ∗ payToks c kk
        ∗ (creditOf c (st kk .cr) ∗ creditOf c (st kk (.sd 0)) ∗ creditOf c (st kk (.sd 1)) ∗ creditOf c (st kk (.rv 0)) ∗ creditOf c (st kk (.rv 1))))
      ⊢ (ghostS c kk : sProp 𝕄) := by
  obtain ⟨h1, h2, h3, h4, h5⟩ := cnt_st kk
  unfold ghostS Pos0 Fuel0 Fuel payToks creditOf
  rw [h1, h2, h3, h4, h5]
  dsimp only [amountK]
  rw [Nat.one_mul, Nat.one_mul]
  iintro ⟨⟨Pc, Ps0, Ps1, Pr0, Pr1⟩, ⟨T0, T1, T2, T3, T4, T5, T6, T7⟩, ⟨C0, C1⟩, -, -, ⟨R0, -⟩, ⟨R1, R2⟩⟩
  isplitl [Pc Ps0 Ps1 Pr0 Pr1]
  · isplitl [Pc]; · iexact Pc
    isplitl [Ps0 Ps1]
    · isplitl [Ps0]; · iexact Ps0
      iexact Ps1
    isplitl [Pr0]; · iexact Pr0
    iexact Pr1
  isplitl [T0 T1 R1]
  · isplitl [T0]; · iexact T0
    isplitl [T1]; · iexact T1
    iexact R1
  isplitl [T2 C0 T3 T4 R0]
  · isplitl [T2]; · iexact T2
    isplitl [C0]; · iexact C0
    isplitl [T3]; · iexact T3
    isplitl [T4]; · iexact T4
    iexact R0
  isplitl [T5]; · iexact T5
  isplitl [C1]; · iexact C1
  isplitl [T6]; · iexact T6
  isplitl [T7]; · iexact T7
  iexact R2

/-- What the ring gives device `c`. -/
theorem ghost_intro (c : Dev nD) : iprop(mine c ∗ Pipeline.launchCred (fun d => owedOf d dues) c)
    ⊢ (iprop(Bar0 c ∗ (bigSep Finset.univ fun kk : Fin 4 => ghostS c kk) ∗ locals c) : sProp 𝕄) := by
  refine (sep_mono_right (creds c)).trans ?_
  unfold mine Bar0
  rw [cells_eq, cells_eq (fun k => creditOf c k), show creditOf (F := F) c bar
    = iprop(cred (tallyAt (kcell c bar) 0 (cnt bar 0 dues * amountK bar)) ∗ cred (tallyAt (kcell c bar) 1 (cnt bar 1 dues * amountK bar))) from rfl, cnt_bar]
  iintro ⟨⟨⟨Pb, Ps⟩, ⟨⟨Tf, Tt⟩, Tp⟩, HL⟩, ⟨Cb, -⟩, Cs⟩
  isplitl [Pb Tf Tt Cb]
  · isplitl [Tt]; · iexact Tt
    isplitl [Tf]; · iexact Tf
    isplitl [Cb]; · iexact Cb
    iexact Pb
  isplitr [HL]
  · iapply (show iprop((bigSep Finset.univ fun kk : Fin 4 => iprop(atPos (ER (F := F)) (kcell c (st kk .cr)) 0 ∅ 0 ∗ atPos (ER (F := F)) (kcell c (st kk (.sd 0))) 0 ∅ 0 ∗ atPos (ER (F := F)) (kcell c (st kk (.sd 1))) 0 ∅ 0
          ∗ atPos (ER (F := F)) (kcell c (st kk (.rv 0))) 0 ∅ 0 ∗ atPos (ER (F := F)) (kcell c (st kk (.rv 1))) 0 ∅ 0))
        ∗ (bigSep Finset.univ fun kk : Fin 4 => payToks c kk)
        ∗ (bigSep Finset.univ fun kk : Fin 4 => iprop(creditOf c (st kk .cr) ∗ creditOf c (st kk (.sd 0)) ∗ creditOf c (st kk (.sd 1)) ∗ creditOf c (st kk (.rv 0)) ∗ creditOf c (st kk (.rv 1)))))
        ⊢ (bigSep Finset.univ fun kk : Fin 4 => ghostS c kk : sProp 𝕄) from by
      rw [← bigSep_sep', ← bigSep_sep']
      exact bigSep_mono fun kk _ => ghost_stream c kk)
    isplitl [Ps]; · iexact Ps
    isplitl [Tp]; · iexact Tp
    iexact Cs
  iexact HL

end Cert.KernelIdeal.Ring
end
-- ==== Proof.KernelIdeal.Launch.lean ====
/-
# The whole run

The buffers are cut into the parts the body works on, the body is run, the cells are closed and the parts put together
again; the launch theorem then says what every final state holds.
-/
module

public import proofs.«01_k».proof.Proof.KernelIdeal.Fund
public import Idealize.ShloMosaic.Lib.Pipeline.CollectiveSegs

@[expose] public section

set_option backward.proofsInPublic true

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Cutting buffers into parts -/

section Parts
variable {ℓ : Loc nD τ sig} {n : ℕ} {K : Fin n → Finset (Idx ℓ)} (hd : ∀ s t, s ≠ t → Disjoint (K s) (K t)) (hu : Finset.univ.biUnion K = Finset.univ)

omit [FloatOps F] in
/-- A part of a buffer with known contents is a part with some contents. -/
theorem part_any (I : Finset (Idx ℓ)) (f : Buf (Elt F) ℓ) : (ℓ ↦[I]{fullShare} f : sProp 𝕄) ⊢ iprop(∃ f : Buf (Elt F) ℓ, ℓ ↦[I]{fullShare} f) := by
  iintro H; iexists f; iexact H

omit [FloatOps F] in
include hd hu in
/-- A buffer with any contents is its parts with any contents, and back. -/
theorem parts_split : (iprop(∃ f : Buf (Elt F) ℓ, ℓ ↦{fullShare} f) : sProp 𝕄) ⊢ bigSep Finset.univ fun t => iprop(∃ f : Buf (Elt F) ℓ, ℓ ↦[K t]{fullShare} f) := by
  iintro ⟨%f, H⟩
  ihave H := (Entails.of_eq (show (ℓ ↦[Finset.univ]{fullShare} f : sProp 𝕄) = _ from by
    rw [← hu, pointsTo_biUnion Finset.univ K fun s _ t _ => hd s t])) $$ H
  ihave H := (show (bigSep Finset.univ fun t => (ℓ ↦[K t]{fullShare} f : sProp 𝕄)) ⊢ bigSep Finset.univ fun t => iprop(∃ f : Buf (Elt F) ℓ, ℓ ↦[K t]{fullShare} f) from
    bigSep_mono fun t _ => part_any (K t) f) $$ H
  iexact H

include hd hu in
/-- Disjoint parts that cover a buffer, each with some contents, are the buffer with some contents. -/
theorem parts_join : (bigSep Finset.univ fun t => iprop(∃ f : Buf (Elt F) ℓ, ℓ ↦[K t]{fullShare} f) : sProp 𝕄)
    ⊢ iprop(∃ f : Buf (Elt F) ℓ, ℓ ↦{fullShare} f) := by
  haveI : Nonempty (Buf (Elt F) ℓ) := ⟨fun _ => Classical.arbitrary _⟩
  iintro H
  ihave H := (BI.bigSep_exists_pi Finset.univ fun (t : Fin n) (f : Buf (Elt F) ℓ) => (ℓ ↦[K t]{fullShare} f : sProp 𝕄)) $$ H
  icases H with ⟨%fs, H⟩
  ihave H := (pointsTo_biUnion_join Finset.univ K fs (Classical.arbitrary _) fun s _ t _ => hd s t) $$ H
  icases H with ⟨%g, -, H⟩
  iexists g
  rw [hu]
  iexact H
end Parts

/-- Slot `s` of a stream's buffer is where the first coordinate is `s`. -/
theorem slotR_mem (s : Fin 2) (i : S2x1024x1024.Idx) : i ∈ (slotR s).set ↔ (i 0).val = s.val := by
  rw [Rect.mem_set_unit]
  constructor
  · intro h
    have h0 := h 0
    have h1 : s.val ≤ (i 0).val := h0.1
    have h2 : (i 0).val < s.val + 1 := h0.2
    omega
  · intro h a
    match a with
    | ⟨0, _⟩ => exact ⟨le_of_eq h.symm, show (i 0).val < s.val + 1 by omega⟩
    | ⟨1, _⟩ => exact ⟨Nat.zero_le _, lt_of_lt_of_eq (i 1).isLt (Nat.zero_add 1024).symm⟩
    | ⟨2, _⟩ => exact ⟨Nat.zero_le _, lt_of_lt_of_eq (i 2).isLt (Nat.zero_add 1024).symm⟩
/-- Slot `s` of the buffer for `B` is where the first coordinate is `s`. -/
theorem bslotR_mem (s : Fin 2) (i : S2x2048x512.Idx) : i ∈ (bslotR s).set ↔ (i 0).val = s.val := by
  rw [Rect.mem_set_unit]
  constructor
  · intro h
    have h0 := h 0
    have h1 : s.val ≤ (i 0).val := h0.1
    have h2 : (i 0).val < s.val + 1 := h0.2
    omega
  · intro h a
    match a with
    | ⟨0, _⟩ => exact ⟨le_of_eq h.symm, show (i 0).val < s.val + 1 by omega⟩
    | ⟨1, _⟩ => exact ⟨Nat.zero_le _, lt_of_lt_of_eq (i 1).isLt (Nat.zero_add 2048).symm⟩
    | ⟨2, _⟩ => exact ⟨Nat.zero_le _, lt_of_lt_of_eq (i 2).isLt (Nat.zero_add 512).symm⟩
/-- A stream's quarter of the result is where the column lies in the stream's 1024 columns. -/
theorem outR_mem (kk : Fin 4) (i : S1024x4096.Idx) : i ∈ (outR kk).set ↔ (i 1).val / 1024 = colOff kk / 1024 := by
  have hc : colOff kk % 1024 = 0 := by revert kk; decide
  rw [Rect.mem_set_unit]
  constructor
  · intro h
    have h1 : colOff kk ≤ (i 1).val := (h 1).1
    have h2 : (i 1).val < colOff kk + 1024 := (h 1).2
    omega
  · intro h a
    match a with
    | ⟨0, _⟩ => exact ⟨Nat.zero_le _, lt_of_lt_of_eq (i 0).isLt (Nat.zero_add 1024).symm⟩
    | ⟨1, _⟩ => exact ⟨show colOff kk ≤ (i 1).val by omega, show (i 1).val < colOff kk + 1024 by omega⟩

/-- The parts of a communication buffer, of the tile buffer and of the result. -/
def slotK (c : Dev nD) (kk : Fin 4) (s : Fin 2) : Finset (Idx (cLoc kk c)) := (slotM kk s).view.set
def bslotK (c : Dev nD) (s : Fin 2) : Finset (Idx (bLoc c)) := (bslotM s).view.set
def outK (c : Dev nD) (kk : Fin 4) : Finset (Idx (oLoc c)) := (outM kk).view.set

/-- A stream's two slots have no element in common. -/
theorem slots_disjoint (c : Dev nD) (kk : Fin 4) (s t : Fin 2) (h : s ≠ t) : Disjoint (slotK c kk s) (slotK c kk t) := by
  show Disjoint ((slotM kk s).view.set) ((slotM kk t).view.set)
  rw [slot_set, slot_set, Finset.disjoint_map]
  exact Finset.disjoint_left.mpr fun i hs ht => h (Fin.ext (((slotR_mem s i).mp hs).symm.trans ((slotR_mem t i).mp ht)))
/-- Every element of a stream's buffer lies in one of its slots, -/
theorem slot_some (kk : Fin 4) (x : (cM kk).view.ty.Idx) : ∃ s : Fin 2, x ∈ (slotM kk s).view.set := by
  have h : x ∈ (cM kk).view.set := by rw [(cM_whole kk).set_eq_univ]; exact Finset.mem_univ _
  obtain ⟨i, -, rfl⟩ := Finset.mem_map.mp h
  obtain ⟨s, hs⟩ : ∃ s : Fin 2, (i 0).val = s.val := ⟨⟨(i 0).val, (i 0).isLt⟩, rfl⟩
  exact ⟨s, by rw [slot_set]; exact Finset.mem_map_of_mem _ ((slotR_mem s i).mpr hs)⟩
/-- so the two slots cover the buffer. -/
theorem slots_cover (c : Dev nD) (kk : Fin 4) : Finset.univ.biUnion (slotK c kk) = Finset.univ :=
  Finset.eq_univ_of_forall fun x => by
    obtain ⟨s, h⟩ := slot_some kk x
    exact Finset.mem_biUnion.mpr ⟨s, Finset.mem_univ _, h⟩

/-- The elements of a slot of the buffer for `B` are those of its rectangle. -/
theorem bslot_set (s : Fin 2) : (bslotM s).view.set = (bslotR s).set := (View.set_reshape _ _).trans (View.set_slice_whole _ _)
/-- The two slots for `B` have no element in common. -/
theorem bslots_disjoint (c : Dev nD) (s t : Fin 2) (h : s ≠ t) : Disjoint (bslotK c s) (bslotK c t) := by
  show Disjoint ((bslotM s).view.set) ((bslotM t).view.set)
  rw [bslot_set, bslot_set]
  exact Finset.disjoint_left.mpr fun i hs ht => h (Fin.ext (((bslotR_mem s i).mp hs).symm.trans ((bslotR_mem t i).mp ht)))
/-- Every element of the buffer for `B` lies in one of its slots, -/
theorem bslot_some (i : S2x2048x512.Idx) : ∃ s : Fin 2, i ∈ (bslotM s).view.set := by
  obtain ⟨s, hs⟩ : ∃ s : Fin 2, (i 0).val = s.val := ⟨⟨(i 0).val, (i 0).isLt⟩, rfl⟩
  exact ⟨s, by rw [bslot_set]; exact (bslotR_mem s i).mpr hs⟩
/-- so the two slots cover it. -/
theorem bslots_cover (c : Dev nD) : Finset.univ.biUnion (bslotK c) = Finset.univ :=
  Finset.eq_univ_of_forall fun x => by
    obtain ⟨s, h⟩ := bslot_some x
    exact Finset.mem_biUnion.mpr ⟨s, Finset.mem_univ _, h⟩

/-- The elements of a quarter of the result are those of its rectangle. -/
theorem out_set (kk : Fin 4) : (outM kk).view.set = (outR kk).set := View.set_slice_whole _ _
/-- The quarters of the result have no element in common. -/
theorem outs_disjoint (c : Dev nD) (s t : Fin 4) (h : s ≠ t) : Disjoint (outK c s) (outK c t) := by
  have hc : ∀ s t : Fin 4, s ≠ t → colOff s / 1024 ≠ colOff t / 1024 := by decide
  show Disjoint ((outM s).view.set) ((outM t).view.set)
  rw [out_set, out_set]
  exact Finset.disjoint_left.mpr fun i hs ht => hc s t h (((outR_mem s i).mp hs).symm.trans ((outR_mem t i).mp ht))
/-- Every element of the result lies in some stream's quarter, -/
theorem out_some (i : S1024x4096.Idx) : ∃ kk : Fin 4, i ∈ (outM kk).view.set := by
  have hc : ∀ q : Fin 4, ∃ kk : Fin 4, q.val = colOff kk / 1024 := by decide
  have hi : (i 1).val < 4096 := (i 1).isLt
  obtain ⟨kk, hk⟩ := hc ⟨(i 1).val / 1024, by omega⟩
  exact ⟨kk, by rw [out_set]; exact (outR_mem kk i).mpr hk⟩
/-- so the quarters cover the result. -/
theorem outs_cover (c : Dev nD) : Finset.univ.biUnion (outK c) = Finset.univ :=
  Finset.eq_univ_of_forall fun x => by
    obtain ⟨s, h⟩ := out_some x
    exact Finset.mem_biUnion.mpr ⟨s, Finset.mem_univ _, h⟩

omit [FloatOps F] in
/-- A separating conjunction over two indices, written out. -/
theorem fin2_eq (Φ : Fin 2 → sProp 𝕄) : bigSep Finset.univ Φ = iprop(Φ 0 ∗ Φ 1) :=
  bigSep_univ_eq_bigSepL [0, 1] (by decide) (by decide) Φ

omit [FloatOps F] in
/-- A stream's buffer is cut into its two slots, -/
theorem slots_split (c : Dev nD) (kk : Fin 4) : (iprop(∃ f : Buf (Elt F) (cLoc kk c), cLoc kk c ↦{fullShare} f) : sProp 𝕄)
    ⊢ iprop(slotAny c kk 0 ∗ slotAny c kk 1) :=
  (parts_split (slots_disjoint c kk) (slots_cover c kk)).trans (Entails.of_eq (fin2_eq _))
/-- and put together from them again. -/
theorem slots_join (c : Dev nD) (kk : Fin 4) : (iprop(slotAny c kk 0 ∗ slotAny c kk 1) : sProp 𝕄)
    ⊢ iprop(∃ f : Buf (Elt F) (cLoc kk c), cLoc kk c ↦{fullShare} f) :=
  (Entails.of_eq (fin2_eq (fun s => slotAny c kk s)).symm).trans (parts_join (slots_disjoint c kk) (slots_cover c kk))
omit [FloatOps F] in
/-- The buffer for `B` is cut into its two slots, -/
theorem bslots_split (c : Dev nD) : (iprop(∃ f : Buf (Elt F) (bLoc c), bLoc c ↦{fullShare} f) : sProp 𝕄)
    ⊢ iprop((∃ f, bslotPts c 0 f) ∗ (∃ f, bslotPts c 1 f)) :=
  (parts_split (bslots_disjoint c) (bslots_cover c)).trans (Entails.of_eq (fin2_eq _))
/-- and put together from them again. -/
theorem bslots_join (c : Dev nD) : (iprop((∃ f, bslotPts c 0 f) ∗ (∃ f, bslotPts c 1 f)) : sProp 𝕄)
    ⊢ iprop(∃ f : Buf (Elt F) (bLoc c), bLoc c ↦{fullShare} f) :=
  (Entails.of_eq (fin2_eq (fun s => iprop(∃ f, bslotPts c s f))).symm).trans (parts_join (bslots_disjoint c) (bslots_cover c))
omit [FloatOps F] in
/-- The result is cut into the four streams' quarters. -/
theorem outs_split (c : Dev nD) : (iprop(∃ f : Buf (Elt F) (oLoc c), oLoc c ↦{fullShare} f) : sProp 𝕄)
    ⊢ bigSep Finset.univ fun kk : Fin 4 => iprop(∃ f, outPts c kk f) :=
  parts_split (outs_disjoint c) (outs_cover c)
omit [FloatOps F] in
/-- A stream's temporary with any contents is the whole buffer with some contents. -/
theorem tAny_eq (c : Dev nD) (kk : Fin 4) : (tAny c kk : sProp 𝕄) = iprop(∃ f : Buf (Elt F) (tLoc kk c), tLoc kk c ↦{fullShare} f) := by
  unfold tAny tPts; rw [(tM_whole kk).set_eq_univ]

/-- Device `c`'s whole right operand, and its share for either tile in flight. -/
def yAll (c : Dev nD) : sProp 𝕄 := ((c : Thread nD τ).loc main_arg1) ↦{fullShare} m ((c : Thread nD τ).loc main_arg1)
omit [FloatOps F] in
/-- `B` is held in two half shares, one for each slot's copies. -/
theorem y_split (c : Dev nD) : yAll m c ⊣⊢ iprop(yPts m c 0 ∗ yPts m c 1) := pointsTo_share (PosShare.mem_left_op_right fullShare)

/-! ## Before and after the body -/

omit [FloatOps F] in
/-- The semaphores of the local copies, written out. -/
theorem locals_eq (c : Dev nD) : (locals c : sProp 𝕄) = iprop(semVal ((c : Thread nD τ), SemLoc.dma aS) 0
    ∗ (semVal ((c : Thread nD τ), SemLoc.dma (bS 0)) 0 ∗ semVal ((c : Thread nD τ), SemLoc.dma (bS 1)) 0)
    ∗ bigSep Finset.univ fun kk : Fin 4 => semVal ((c : Thread nD τ), SemLoc.dma (oS kk)) 0) := by
  unfold locals
  rw [bigSep_univ_sum, bigSep_univ_of_subsingleton (), bigSep_univ_sum, fin2_eq]
  rfl

/-- A device's scratch buffers, stream by stream and those of the operands. -/
def scratchS (c : Dev nD) (kk : Fin 4) : sProp 𝕄 :=
  iprop((∃ f : Buf (Elt F) (cLoc kk c), cLoc kk c ↦{fullShare} f) ∗ ∃ f : Buf (Elt F) (tLoc kk c), tLoc kk c ↦{fullShare} f)
def scratch (c : Dev nD) : sProp 𝕄 :=
  iprop((bigSep Finset.univ fun kk : Fin 4 => scratchS c kk) ∗ (∃ a, aPts c a) ∗ ∃ f : Buf (Elt F) (bLoc c), bLoc c ↦{fullShare} f)

omit [FloatOps F] in
/-- The scratch memory that the launch hands out is the buffers that the proof names, -/
theorem scratch_of (c : Dev nD) : (Pipeline.scopedRest cfg0.spec c : sProp 𝕄) ⊢ scratch c := by
  rw [scopedRest0_eq]
  unfold scratch scratchS
  rw [fin4_eq]
  iintro ⟨H0, H1, H2, H3, H4, H5, H6, H7, H8, H9⟩
  isplitr [H8 H9]
  · isplitl [H0 H4]
    · isplitl [H0]; · iexact H0
      iexact H4
    isplitl [H1 H5]
    · isplitl [H1]; · iexact H1
      iexact H5
    isplitl [H2 H6]
    · isplitl [H2]; · iexact H2
      iexact H6
    isplitl [H3]; · iexact H3
    iexact H7
  isplitl [H8]; · iexact H8
  iexact H9
omit [FloatOps F] in
/-- and those buffers are what the launch takes back. -/
theorem scratch_to (c : Dev nD) : scratch c ⊢ (Pipeline.scopedRest cfg0.spec c : sProp 𝕄) := by
  rw [scopedRest0_eq]
  unfold scratch scratchS
  rw [fin4_eq]
  iintro ⟨⟨⟨H0, H4⟩, ⟨H1, H5⟩, ⟨H2, H6⟩, H3, H7⟩, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A stream when the cells are closed. -/
def StrmDone (c : Dev nD) (kk : Fin 4) : sProp 𝕄 :=
  iprop((slotAny c kk 0 ∗ slotAny c kk 1) ∗ outIs c kk (finalV m kk c) ∗ tAny c kk ∗ semVal ((c : Thread nD τ), SemLoc.dma (oS kk)) 0)

/-- What the body starts from. -/
def Φ₀ (c : Dev nD) : sProp 𝕄 :=
  iprop((∃ K, records m K) ∗ (∃ a, Env m c a) ∗ Bar0 c ∗ bigSep Finset.univ fun kk : Fin 4 => Strm c kk)
/-- What it leaves. -/
def Φ₁ (c : Dev nD) : sProp 𝕄 :=
  iprop((∃ a, Env m c a) ∗ (bigSep Finset.univ fun k : Cl => semVal (kcell c k) 0) ∗ bigSep Finset.univ fun kk : Fin 4 => StrmDone m c kk)

/-- The memory and the ring's share with which device `c` enters. -/
def start (c : Dev nD) : sProp 𝕄 :=
  iprop((∃ K, records m K) ∗ (Bar0 c ∗ (bigSep Finset.univ fun kk : Fin 4 => ghostS c kk) ∗ locals c)
    ∗ xPts m c ∗ yAll m c ∗ ∃ f : Buf (Elt F) (oLoc c), oLoc c ↦{fullShare} f)

/-- A stream's ghost state, buffers, quarter and semaphore make up its initial state. -/
theorem strm_intro (c : Dev nD) (kk : Fin 4) :
    iprop(ghostS c kk ∗ scratchS c kk ∗ (∃ f, outPts c kk f) ∗ semVal ((c : Thread nD τ), SemLoc.dma (oS kk)) 0) ⊢ (Strm c kk : sProp 𝕄) := by
  unfold ghostS Strm scratchS oRes
  rw [tAny_eq]
  iintro ⟨Hg, ⟨Hc, Ht⟩, Ho, Hs⟩
  ihave Hc := (slots_split c kk) $$ Hc
  icases Hc with ⟨H0, H1⟩
  isplitl [Hg]; · iexact Hg
  isplitl [H0]; · iexact H0
  isplitl [H1]; · iexact H1
  isplitl [Ht]; · iexact Ht
  isplitl [Ho]; · iexact Ho
  iexact Hs

/-- What a device starts with, and its scratch memory, make up the body's precondition. -/
theorem enter (c : Dev nD) : iprop(start m c ∗ scratch c) ⊢ Φ₀ m c := by
  unfold start scratch Φ₀ Env bRes
  rw [locals_eq]
  iintro ⟨⟨HK, ⟨HB, Hg, Ha, ⟨Hb0, Hb1⟩, Hos⟩, Hx, Hy, Hout⟩, Hsc, ⟨%a, Hsa⟩, Hsb⟩
  ihave Hout := (outs_split c) $$ Hout
  ihave Hsb := (bslots_split c) $$ Hsb
  icases Hsb with ⟨Hs0, Hs1⟩
  ihave Hy := (y_split m c).1 $$ Hy
  icases Hy with ⟨Hy0, Hy1⟩
  isplitl [HK]; · iexact HK
  isplitl [Hx Hsa Ha Hb0 Hb1 Hs0 Hs1 Hy0 Hy1]
  · iexists a
    isplitl [Hx]; · iexact Hx
    isplitl [Hsa]; · iexact Hsa
    isplitl [Ha]; · iexact Ha
    isplitl [Hy0 Hs0 Hb0]
    · isplitl [Hy0]; · iexact Hy0
      isplitl [Hs0]; · iexact Hs0
      iexact Hb0
    isplitl [Hy1]; · iexact Hy1
    isplitl [Hs1]; · iexact Hs1
    iexact Hb1
  isplitl [HB]; · iexact HB
  iapply (show iprop((bigSep Finset.univ fun kk : Fin 4 => ghostS c kk) ∗ (bigSep Finset.univ fun kk : Fin 4 => scratchS c kk)
      ∗ (bigSep Finset.univ fun kk : Fin 4 => iprop(∃ f, outPts c kk f)) ∗ bigSep Finset.univ fun kk : Fin 4 => semVal ((c : Thread nD τ), SemLoc.dma (oS kk)) 0)
      ⊢ (bigSep Finset.univ fun kk : Fin 4 => Strm c kk : sProp 𝕄) from by
    rw [← bigSep_sep', ← bigSep_sep', ← bigSep_sep']
    exact bigSep_mono fun kk _ => strm_intro c kk)
  isplitl [Hg]; · iexact Hg
  isplitl [Hsc]; · iexact Hsc
  isplitl [Hout]; · iexact Hout
  iexact Hos

/-- What is read off at the end: the operands as they were, the result. -/
def finish (c : Dev nD) : sProp 𝕄 :=
  iprop(unscopedSems0 c ∗ xPts m c ∗ yAll m c ∗ bigSep Finset.univ fun kk : Fin 4 => outIs c kk (finalV m kk c))

/-- A finished stream gives back its buffers, its quarter with the final value, and its semaphore. -/
theorem strm_elim (c : Dev nD) (kk : Fin 4) : StrmDone m c kk
    ⊢ iprop(scratchS c kk ∗ outIs c kk (finalV m kk c) ∗ semVal ((c : Thread nD τ), SemLoc.dma (oS kk)) 0) := by
  unfold StrmDone scratchS
  rw [tAny_eq]
  iintro ⟨Hc, Ho, Ht, Hs⟩
  ihave Hc := (slots_join c kk) $$ Hc
  isplitl [Hc Ht]
  · isplitl [Hc]; · iexact Hc
    iexact Ht
  isplitl [Ho]; · iexact Ho
  iexact Hs

/-- The body's postcondition gives the final memory, the semaphores at zero and the scratch memory. -/
theorem leave (c : Dev nD) : Φ₁ m c
    ⊢ iprop(finish m c ∗ Pipeline.ownSems0 (Ix := ℕ) (Name := ℕ) (U := UU) (Lvl := ℕ) (Val := Elt F) (τ := τ) osem c ∗ scratch c) := by
  unfold Φ₁ finish scratch Env bRes
  rw [ownSems_eq, locals_eq, unscopedSems_eq, bigSep_univ_sum, bigSep_univ_of_subsingleton ()]
  show iprop(_ ∗ (semVal (kcell c bar) 0 ∗ bigSep Finset.univ fun p : Fin 4 × Role => semVal (kcell c (.inr p)) 0) ∗ _) ⊢ _
  iintro ⟨⟨%a, Hx, Hsa, Ha, ⟨Hy0, Hs0, Hb0⟩, Hy1, Hs1, Hb1⟩, ⟨Hbar, Hst⟩, Hs⟩
  ihave Hs := (show (bigSep Finset.univ fun kk : Fin 4 => StrmDone m c kk)
      ⊢ iprop((bigSep Finset.univ fun kk : Fin 4 => scratchS c kk) ∗ (bigSep Finset.univ fun kk : Fin 4 => outIs c kk (finalV m kk c))
        ∗ bigSep Finset.univ fun kk : Fin 4 => semVal ((c : Thread nD τ), SemLoc.dma (oS kk)) 0) from by
    rw [← bigSep_sep', ← bigSep_sep']
    exact bigSep_mono fun kk _ => strm_elim m c kk) $$ Hs
  icases Hs with ⟨Hsc, Ho, Hos⟩
  ihave Hsb := (bslots_join c) $$ [Hs0 Hs1]
  · isplitl [Hs0] <;> iassumption
  ihave Hy := (y_split m c).2 $$ [Hy0 Hy1]
  · isplitl [Hy0] <;> iassumption
  isplitl [Hbar Hx Hy Ho]
  · isplitl [Hbar]; · iexact Hbar
    isplitl [Hx]; · iexact Hx
    isplitl [Hy]; · iexact Hy
    iexact Ho
  isplitl [Hst Ha Hb0 Hb1 Hos]
  · isplitl [Hst]; · iexact Hst
    isplitl [Ha]; · iexact Ha
    isplitl [Hb0 Hb1]
    · isplitl [Hb0]; · iexact Hb0
      iexact Hb1
    iexact Hos
  isplitl [Hsc]; · iexact Hsc
  isplitl [Hsa]; · iexists a; iexact Hsa
  iexact Hsb

/-! ## Closing the cells -/

section Close
variable (K : Dev nD × Cl → ℕ)

/-- A cell all of whose rounds are over gives back its semaphore, at zero. -/
theorem close (c : Dev nD) (k : Cl) (R : ℕ) (h : rounds k ≤ R) :
    iprop(records m K ∗ atPos (ER (F := F)) (kcell c k) R ∅ 0) ⊢ |={Set.univ}=> semVal (kcell c k) 0 := by
  iintro ⟨#Hrec, Hat⟩
  iapply (Rounds.cell_close ER (sched m) (Set.mem_univ (K (c, k))) (fun h => h) (R := R) (fun r hr => sched_later m c k r (h.trans hr)))
  isplitr
  · iapply (records_inv m K c k); iexact Hrec
  iexact Hat

/-- A finished stream's five cells give back their semaphores, at zero. -/
theorem close_stream (c : Dev nD) (kk : Fin 4) : iprop(records m K ∗ PosEnd c kk)
    ⊢ |={Set.univ}=> iprop(semVal (kcell c (st kk .cr)) 0 ∗ semVal (kcell c (st kk (.sd 0))) 0 ∗ semVal (kcell c (st kk (.sd 1))) 0
        ∗ semVal (kcell c (st kk (.rv 0))) 0 ∗ semVal (kcell c (st kk (.rv 1))) 0) := by
  unfold PosEnd
  iintro ⟨#Hrec, Hc, ⟨Hs0, Hs1⟩, Hr0, Hr1⟩
  imod (close m K c (st kk .cr) 2 (Nat.le_refl 2)) $$ [Hc] with Hc
  · isplitr; · iexact Hrec
    iexact Hc
  imod (close m K c (st kk (.sd 0)) 2 (Nat.le_refl 2)) $$ [Hs0] with Hs0
  · isplitr; · iexact Hrec
    iexact Hs0
  imod (close m K c (st kk (.sd 1)) 1 (Nat.le_refl 1)) $$ [Hs1] with Hs1
  · isplitr; · iexact Hrec
    iexact Hs1
  imod (close m K c (st kk (.rv 0)) 1 (Nat.le_refl 1)) $$ [Hr0] with Hr0
  · isplitr; · iexact Hrec
    iexact Hr0
  imod (close m K c (st kk (.rv 1)) 2 (Nat.le_refl 2)) $$ [Hr1] with Hr1
  · isplitr; · iexact Hrec
    iexact Hr1
  imodintro
  isplitl [Hc]; · iexact Hc
  isplitl [Hs0]; · iexact Hs0
  isplitl [Hs1]; · iexact Hs1
  isplitl [Hr0]; · iexact Hr0
  iexact Hr1

/-- A stream that has ended gives back its semaphores and is finished. -/
theorem close_strm (c : Dev nD) (kk : Fin 4) : iprop(records m K ∗ StrmEnd m c kk)
    ⊢ |={Set.univ}=> iprop((semVal (kcell c (st kk .cr)) 0 ∗ semVal (kcell c (st kk (.sd 0))) 0 ∗ semVal (kcell c (st kk (.sd 1))) 0
        ∗ semVal (kcell c (st kk (.rv 0))) 0 ∗ semVal (kcell c (st kk (.rv 1))) 0) ∗ StrmDone m c kk) := by
  unfold StrmEnd StrmDone
  iintro ⟨#Hrec, Hp, Hrest⟩
  imod (close_stream m K c kk) $$ [Hp] with Hp
  · isplitr; · iexact Hrec
    iexact Hp
  imodintro
  isplitl [Hp]; · iexact Hp
  iexact Hrest

/-- When the body is over, every cell closes. -/
theorem close_all (c : Dev nD) (a : Vec F S1024x2048 .f32) :
    iprop(records m K ∗ Env m c a ∗ atPos (ER (F := F)) (kcell c bar) 1 ∅ 0 ∗ bigSep Finset.univ fun kk : Fin 4 => StrmEnd m c kk)
      ⊢ |={Set.univ}=> Φ₁ m c := by
  unfold Φ₁
  rw [cells_eq]
  iintro ⟨#Hrec, He, Hb, Hs⟩
  imod (close m K c bar 1 (by decide)) $$ [Hb] with Hb
  · isplitr; · iexact Hrec
    iexact Hb
  imod (show iprop(records m K ∗ bigSep Finset.univ fun kk : Fin 4 => StrmEnd m c kk)
      ⊢ |={Set.univ}=> iprop((bigSep Finset.univ fun kk : Fin 4 => iprop(semVal (kcell c (st kk .cr)) 0 ∗ semVal (kcell c (st kk (.sd 0))) 0 ∗ semVal (kcell c (st kk (.sd 1))) 0
        ∗ semVal (kcell c (st kk (.rv 0))) 0 ∗ semVal (kcell c (st kk (.rv 1))) 0)) ∗ bigSep Finset.univ fun kk : Fin 4 => StrmDone m c kk) from by
    rw [← bigSep_sep']
    exact ((sep_mono_left (BI.bigSep_of_persistent Finset.univ (records m K))).trans (by
      rw [← bigSep_sep']; exact bigSep_mono fun kk _ => close_strm m K c kk)).trans (bigSep_fupd _ _)) $$ [Hs] with ⟨Hz, Hs⟩
  · isplitr; · iexact Hrec
    iexact Hs
  imodintro
  isplitl [He]; · iexists a; iexact He
  isplitr [Hs]
  · isplitl [Hb]; · iexact Hb
    iexact Hz
  iexact Hs

end Close

/-! ## The launch -/

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedOf c dues
    | ⟨_ + 1, _⟩ => 0

/-- From what a device starts with, paying all it owes, its body leaves what it should. -/
theorem body_once (c : Dev nD) : iprop(Φ₀ m c ∗ Ow c dues)
    ⊢ Runs c (body (F := F)) fun _ => iprop(Φ₁ m c ∗ Ow c []) := by
  unfold Φ₀
  rw [fin4_eq]
  iintro ⟨⟨⟨%K, #Hrec⟩, ⟨%a, He⟩, HB, Hs⟩, HO⟩
  iapply (wp_fupd frame _ Set.univ)
  iapply (body_runs m K c (fun _ => iprop(|={Set.univ}=> (Φ₁ m c ∗ Ow c []))) a) $$ [He HB Hs HO]
  · isplitr; · iexact Hrec
    isplitl [He]; · iexact He
    isplitl [HB]; · iexact HB
    isplitl [Hs]; · iexact Hs
    iexact HO
  iintro ⟨He, Hb, Hs, HO⟩
  imod (close_all m K c (chunkV m c (chunk 0 3 c))) $$ [He Hb Hs] with H
  · isplitr; · iexact Hrec
    isplitl [He]; · iexact He
    isplitl [Hb]; · iexact Hb
    rw [fin4_eq]
    iexact Hs
  imodintro
  isplitl [H]; · iexact H
  iexact HO

/-- The body that the launch calls is the kernel's body. -/
theorem defs₀_row (t : Fin cfg0.N) : defs₀ (F := F) .tc cfg0.body (cfg0.bodyArgs t (cfg0.slots t)) = bodyAt0 t := by
  unfold defs₀; rw [Defs.onTc_tc]

/-- What the launch says of a device's debts is what the body says of them, -/
theorem owes_in (c : Dev nD) (t : Fin (cfg0.N + 1)) (l : List Due) (h : (dats (F := F) m 0 c).owed t = owedOf c l) :
    (dats (F := F) m 0 c).owesAt 0 t ⊢ Ow c l := by
  unfold Dat.owesAt Ow
  rw [h]
  iintro ⟨%W, %hW, HO⟩
  iexists W; iexact HO

/-- and the other way round. -/
theorem owes_out (c : Dev nD) (t : Fin (cfg0.N + 1)) (l : List Due) (h : (dats (F := F) m 0 c).owed t = owedOf c l) :
    Ow c l ⊢ (dats (F := F) m 0 c).owesAt 0 t := by
  unfold Dat.owesAt Ow
  rw [h]
  iintro ⟨%W, HO⟩
  iexists W
  isplitr; · ipureintro; exact fun _ _ => Or.inl trivial
  iexact HO

/-- The state before the body, -/
theorem phi_in (c : Dev nD) : (dats (F := F) m 0 c).Φ t0_0.castSucc = Φ₀ m c := rfl
/-- the state after it, -/
theorem phi_out (c : Dev nD) : (dats (F := F) m 0 c).Φ t0_0.succ = Φ₁ m c := rfl
/-- the debts before it, -/
theorem owed_in (c : Dev nD) : (dats (F := F) m 0 c).owed t0_0.castSucc = owedOf c dues := rfl
/-- and none after it. -/
theorem owed_out (c : Dev nD) : (dats (F := F) m 0 c).owed t0_0.succ = owedOf c [] := rfl

set_option maxRecDepth 20000 in
/-- The body at its one point. -/
theorem body_obligation (c : Dev nD) : BodyObligation (dats (F := F) m 0 c) (defs₀ (F := F)) 𝒱₀ 0 Set.univ := fun t => by
  rw [defs₀_row, fin_N0 t, body_eq, phi_in, phi_out]
  haveI : IsEmpty (Fin cfg0.W) := inferInstanceAs (IsEmpty (Fin 0))
  rw [Finset.univ_eq_empty, bigSep_empty, bigSep_empty]
  refine ((sep_mono_right ((sep_mono_left (owes_in m c _ dues (owed_in m c))).trans BI.sep_emp.1)).trans (body_once m c)).trans
    (wp_mono frame _ Set.univ fun _ => sep_mono_right ((owes_out m c _ [] (owed_out m c)).trans BI.sep_emp.2))

/-! ## The launch -/

/-- The ghost state the launch starts from: the pipeline's cells, the ring's, and the counters of the local copies. -/
def u₀ : UU := (initOf (Pipeline.cells cfgs cellOf_inj) (Pipeline.launchToks cfgs cellOf_inj), (initOf ringCells ringToks, 1))

/-- The initial element is the launch's part beside the ring's. -/
theorem u₀_split : (ownU u₀ : sProp 𝕄)
    ⊢ iprop(BI.own (EP (F := F) (initOf (Pipeline.cells cfgs cellOf_inj) (Pipeline.launchToks cfgs cellOf_inj))) ∗ BI.own (ER (F := F) (initOf ringCells ringToks))) :=
  BI.own_op_elim ((uEmb (nD := nD) (sig := sig) (Ix := ℕ) (Val := Elt F) (Name := ℕ) (U := UU) (Lvl := ℕ)).toEmb.op_of_mem
    (Prod.mk_mem_op (URA.mem_op_one _) (URA.mem_one_op _)))

/-- The initial element gives the launch's part and every device's part of the ring. -/
theorem fund : (ownU u₀ : sProp 𝕄) ⊢ |={Set.univ}=> iprop(BI.own (EP (F := F) (initOf (Pipeline.cells cfgs cellOf_inj) (Pipeline.launchToks cfgs cellOf_inj)))
    ∗ bigSep Finset.univ (G m)) := by
  iintro H
  ihave H := (u₀_split (F := F)) $$ H
  icases H with ⟨HP, HX⟩
  imod (fund_ring m) $$ HX with HG
  imodintro
  isplitl [HP]; · iexact HP
  iexact HG

/-- What the launch gives a device, outside the kernel, is what the device starts with. -/
theorem start_of (c : Dev nD) :
    iprop(Pipeline.unscopedRestP Pipeline.Prefetch.none cfg0.spec c (fun b => m ((c : Thread nD τ).loc b)) ∗ levAts L lv
        ∗ Pipeline.launchCred (fun d => owedOf d dues) c ∗ prngReg c (ρ c) ∗ G' m c)
      ⊢ |={Set.univ}=> iprop(start m c ∗ emp) := by
  unfold start G' books
  rw [Pipeline.unscopedRestP_none, unscopedRest0_eq]
  iintro ⟨⟨Hx, Hy, Ho⟩, Hlev, Hcr, -, ⟨%K, ⟨Hi, Hr⟩, Hm⟩⟩
  ihave Hg := (ghost_intro (F := F) c) $$ [Hm Hcr]
  · isplitl [Hm]; · iexact Hm
    iexact Hcr
  imodintro
  isplitl
  · isplitl [Hi Hr Hlev]
    · iexists K
      unfold records
      isplitl [Hi]; · iexact Hi
      isplitl [Hr]; · iexact Hr
      iexact Hlev
    isplitl [Hg]; · iexact Hg
    isplitl [Hx]; · unfold xPts; iexact Hx
    isplitl [Hy]; · unfold yAll; iexact Hy
    iexists m (oLoc c); iexact Ho
  · iempintro

/-- What the launch gives a device at the kernel's start implies the state before the body, -/
theorem enter_of (c : Dev nD) :
    iprop(start m c ∗ Pipeline.prefHeld Pipeline.Prefetch.none c (fun _ => fullShare.right) (fun k => k.elim0) ∗ Pipeline.scopedRest cfg0.spec c)
      ⊢ (dats m 0 c).Φ 0 := by
  iintro ⟨Hs, -, Hr⟩
  ihave Hr := (scratch_of (F := F) c) $$ Hr
  rw [show (dats m 0 c).Φ 0 = Φ₀ m c from rfl]
  iapply (enter m c)
  isplitl [Hs]; · iexact Hs
  iexact Hr

/-- and the state after the body is what the launch takes back. -/
theorem leave_of (c : Dev nD) :
    (dats m 0 c).Φ (Fin.last cfg0.N) ⊢ iprop(finish m c ∗ Pipeline.ownSems0 osem c ∗ Pipeline.scopedRest cfg0.spec c) :=
  (leave m c).trans (sep_mono .rfl (sep_mono .rfl (scratch_to c)))

/-! ## The run -/

/-- What a device's memory holds at the end: its operands as they were, and in every quarter of its result that quarter's value. -/
def Holds (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ kk, (outM kk).view.read (Elt F) (s.mem (oLoc c)) = finalV m kk c

/-- A quarter of the result that holds a value reads as it in the machine's memory. -/
theorem out_read (c : Dev nD) (kk : Fin 4) (v : Vec F S1024x1024 .f32) (s' : Phys nD τ sig (Elt F)) :
    iprop(outIs c kk v ∗ SI s') ⊢ (⌜(outM kk).view.read (Elt F) (s'.mem.mem (oLoc c)) = v⌝ : sProp 𝕄) := by
  unfold outIs outPts
  iintro ⟨⟨%f, %hf, Ho⟩, HSI⟩
  ihave %h := (SI_pointsTo_agree (Ix := ℕ) (Name := ℕ) (U := UU) (Lvl := ℕ) (st := s') (ℓ := oLoc c) (I := (outM kk).view.set) (q := fullShare) (f := f)) $$ [HSI Ho]
  · isplitl [HSI]; · iexact HSI
    iexact Ho
  ipureintro
  exact (View.read_congr h).trans hf

/-- A buffer that holds some contents has them in the machine's memory. -/
theorem whole_read (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave %h := (SI_pointsTo_agree (Ix := ℕ) (Name := ℕ) (U := UU) (Lvl := ℕ) (st := s') (ℓ := ℓ) (I := Finset.univ) (q := fullShare) (f := f)) $$ [HSI H]
  · isplitl [HSI]; · iexact HSI
    iexact H
  ipureintro
  exact Buf.eq_of_forall_mem_univ h

/-- All four quarters of the result read as their final values. -/
theorem outs_read (c : Dev nD) (s' : Phys nD τ sig (Elt F)) :
    iprop((bigSep Finset.univ fun kk : Fin 4 => outIs c kk (finalV m kk c)) ∗ SI s')
      ⊢ (⌜∀ kk, (outM kk).view.read (Elt F) (s'.mem.mem (oLoc c)) = finalV m kk c⌝ : sProp 𝕄) :=
  (forall_intro fun kk => (sep_mono_left (bigSep_elim (Finset.mem_univ kk))).trans (out_read c kk _ s')).trans pure_forall.2

/-- In the end the arguments are unchanged, the result's quarters have their final values, and the barrier is at zero. -/
theorem finish_read (c : Dev nD) (s' : Phys nD τ sig (Elt F)) :
    iprop(finish m c ∗ emp ∗ SI s') ⊢ |={Set.univ}=> iprop(⌜Holds m c s'.mem ∧ ∀ sm : SemLoc sig, sm.isScoped .tc = false → s'.mem.sem ((c.tc : Thread nD τ), sm) = 0⌝ ∗ SI s') := by
  unfold finish xPts yAll Holds
  iintro ⟨⟨Hu, Hx, Hy, Ho⟩, -, HSI⟩
  ihave %h0 := (whole_read ((c : Thread nD τ).loc main_arg0) (m ((c : Thread nD τ).loc main_arg0)) s') $$ [Hx HSI]
  · isplitl [Hx]; · iexact Hx
    iexact HSI
  ihave %h1 := (whole_read ((c : Thread nD τ).loc main_arg1) (m ((c : Thread nD τ).loc main_arg1)) s') $$ [Hy HSI]
  · isplitl [Hy]; · iexact Hy
    iexact HSI
  ihave %h2 := (outs_read m c s') $$ [Ho HSI]
  · isplitl [Ho]; · iexact Ho
    iexact HSI
  imod (Pipeline.unscopedSems0_read (X := unscopedSems0 c) (c := c) fupd_intro s') $$ [Hu HSI] with ⟨%hz, HSI⟩
  · isplitl [Hu]; · iexact Hu
    iexact HSI
  imodintro
  isplitr
  · ipureintro; exact ⟨⟨⟨h0, h1⟩, h2⟩, hz⟩
  iexact HSI

set_option maxRecDepth 8000 in
/-- On four devices, with any floats, from any memory with zero counters: every fair execution of the program ends, and
    then on every device the operands are as they were, the result holds what the chain of quarters gives, and every
    counter is zero. -/
theorem run_main : θ_run defs (onTc (τ := τ) (main (F := F))) (⟨m, fun _ => 0, ρ⟩ : MemSt nD τ sig (Elt F))
    (fun r => (∀ c, Holds m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun d => owedOf d dues) (howed₀ := fun _ => rfl) (howedN := fun _ => rfl)
    (L := L) (lv := lv) (hL := L_of_ne)
    (hwaits := fun c => Pipeline.cellsWaits_intro cfgs (dats m) 0 0 c fun w => w.elim0)
    (G := G m) (G' := G' m) (u₀ := u₀) (hu₀ := fund m) (hglob := glob m)
    (hA := fun _ w => w.elim0) (hpf := fun _ k => k.elim0)
    (X := start m) (Y := finish m) (Z := fun _ => iprop(emp))
    (hX := start_of m ρ) (hin := enter_of m) (hout := leave_of m)
    (QY := fun c s => Holds m c s ∧ ∀ sm : SemLoc sig, sm.isScoped .tc = false → s.sem ((c.tc : Thread nD τ), sm) = 0)
    (hY := finish_read m)
    (hQ := fun _ h hs => ⟨fun c => (h c).2.2.1, sem_eq_zero hs fun c => (h c).2.2.2⟩)

end Cert.KernelIdeal.Ring
end
-- ==== Proof.Value.lean ====
/-
# The value

Over the reals every device's result is its row block of the product: the chain of quarters is the sum of the four
devices' local products, and that sum is the whole contraction cut into four.
-/
module

public import proofs.«01_k».proof.Proof.KernelIdeal.Plan
public import proofs.«01_k».proof.Proof.Gen.ReferenceIdeal.Run
public import Idealize.ShloMosaic.Lib.Pointwise
public import Idealize.ShloMosaic.Lib.Layout
public import Idealize.ShloMosaic.Lib.Pipeline.ValueKit.Acc

@[expose] public section

set_option backward.proofsInPublic true
set_option maxRecDepth 16384

noncomputable section

namespace Cert.Product

open Cert.KernelIdeal Cert.KernelIdeal.Gen
open Cert.KernelIdeal.Ring hiding ix2 ix3

open Idealize.ShloMosaic
open Idealize.ShloMosaic.TcCoe

/-! ## The arithmetic at an index -/

/-- A tile of a local product is the sum of the products along its row and column. -/
theorem prodF_apply (a : Vec Ideal S1024x2048 .f32) (b : Vec Ideal S1x2048x512 .f32) (r : Fin 1024) (l : Fin 512) :
    prodF a b (ix2 r l) = ∑ k : Fin 2048, a (ix2 r k) * b (ix3 0 k l) := by
  unfold prodF
  pointwise [k0_pay10]

/-- The same tile as it is put into the slot. -/
theorem prodI_apply (a : Vec Ideal S1024x2048 .f32) (b : Vec Ideal S1x2048x512 .f32) (r : Fin 1024) (l : Fin 512) :
    prodI a b (ix3 0 r l) = ∑ k : Fin 2048, a (ix2 r k) * b (ix3 0 k l) := by
  unfold prodI
  pointwise [k0_pay1]

/-- The sum that is sent on, -/
theorem accP_apply (u : Vec Ideal S1x1024x1024 .bf16) (t : Vec Ideal S1024x1024 .f32) (r l : Fin 1024) :
    accP u t (ix3 0 r l) = u (ix3 0 r l) + t (ix2 r l) := by
  unfold accP
  pointwise [k0_pay12]

/-- and the last sum. -/
theorem finP_apply (t : Vec Ideal S1024x1024 .f32) (u : Vec Ideal S1x1024x1024 .bf16) (r l : Fin 1024) :
    finP t u (ix2 r l) = t (ix2 r l) + u (ix3 0 r l) := by
  unfold finP
  pointwise [k0_pay40]

/-- The reference's result at an index. -/
theorem dot_apply (A : Vec Ideal Cert.ReferenceIdeal.S4096x8192 .f32) (B : Vec Ideal Cert.ReferenceIdeal.S8192x4096 .f32) (r l : Fin 4096) :
    (Host.dotGeneral (F := Ideal) (φ₁ := .f32) (φ₂ := .f32) Cert.ReferenceIdeal.dot_S4096x8192_S8192x4096_S4096x4096_1_0_0_1_n_n none A B : Vec Ideal Cert.ReferenceIdeal.S4096x4096 .f32) (ix2 r l)
      = ∑ k : Fin 8192, A (ix2 r k) * B (ix2 k l) := by
  pointwise

/-! ## Reading the operands -/

/-- Reading a chunk of `A`. -/
theorem chunk_read (f : S4096x2048.Idx → Elt Ideal .f32) (q : Fin 4) (r : Fin 1024) (k : Fin 2048) :
    (chunkM ![1024 * q.val, 0] (inb_chunk q)).view.read (Elt Ideal) f (ix2 r k) = f (ix2 ⟨1024 * q.val + r.val, by omega⟩ k) := by
  refine congrArg f (funext fun a => Fin.ext ?_)
  match a with
  | ⟨0, _⟩ => exact congrArg (1024 * q.val + ·) (Nat.one_mul r.val)
  | ⟨1, _⟩ => exact (congrArg (0 + ·) (Nat.one_mul k.val)).trans (Nat.zero_add k.val)

/-- Reading a tile of `B`. -/
theorem tile_read (f : S2048x4096.Idx → Elt Ideal .f32) (kk : Fin 4) (j : Fin 2) (k : Fin 2048) (l : Fin 512) (h : colOff kk + 512 * j.val + l.val < 4096) :
    (tileM kk j).view.read (Elt Ideal) f (ix2 k l) = f (ix2 k ⟨colOff kk + 512 * j.val + l.val, h⟩) := by
  refine congrArg f (funext fun a => Fin.ext ?_)
  match a with
  | ⟨0, _⟩ => exact (congrArg (0 + ·) (Nat.one_mul k.val)).trans (Nat.zero_add k.val)
  | ⟨1, _⟩ => exact congrArg (colOff kk + 512 * j.val + ·) (Nat.one_mul l.val)

/-- Reading a stream's quarter of the result. -/
theorem out_at (f : S1024x4096.Idx → Elt Ideal .f32) (kk : Fin 4) (r l : Fin 1024) (h : colOff kk + l.val < 4096) :
    (outM kk).view.read (Elt Ideal) f (ix2 r l) = f (ix2 r ⟨colOff kk + l.val, h⟩) := by
  refine congrArg f (funext fun a => Fin.ext ?_)
  match a with
  | ⟨0, _⟩ => exact (congrArg (0 + ·) (Nat.one_mul r.val)).trans (Nat.zero_add r.val)
  | ⟨1, _⟩ => exact congrArg (colOff kk + ·) (Nat.one_mul l.val)

/-- Dropping a leading axis of length one keeps the other two coordinates. -/
theorem unsqueeze (k : Fin 2048) (l : Fin 512) :
    (Shape.reshapeEquiv squeezes_S1x2048x512_S2048x512.numel_eq).symm (ix3 0 k l : S1x2048x512.Idx) = (ix2 k l : S2048x512.Idx) := by
  rw [Equiv.symm_apply_eq]
  pointwise

/-! ## One device's products -/

variable (m : (ℓ : Loc nD τ sig) → Buf (Elt Ideal) ℓ)

/-- Device `c`'s block of `A`, -/
def xOf (c : Dev nD) : Vec Ideal S4096x2048 .f32 := m ((c : Thread nD τ).loc main_arg0)
/-- and of `B`. -/
def yOf (c : Dev nD) : Vec Ideal S2048x4096 .f32 := m ((c : Thread nD τ).loc main_arg1)

/-- Device `c`'s share of row `i`, column `j` of the product. -/
def part (c : Dev nD) (i j : Fin 4096) : Elt Ideal .f32 := ∑ k : Fin 2048, xOf m c (ix2 i k) * yOf m c (ix2 k j)

/-- A stream's columns lie inside the matrix. -/
theorem col_lt (kk : Fin 4) (l : Fin 1024) : colOff kk + l.val < 4096 := by
  have : colOff kk ≤ 3072 := by revert kk; decide
  omega

/-- The row of chunk `q`. -/
abbrev rowAt (q : Fin 4) (r : Fin 1024) : Fin 4096 := ⟨1024 * q.val + r.val, by omega⟩
/-- The column of stream `kk`'s quarter. -/
abbrev colAt (kk : Fin 4) (l : Fin 1024) : Fin 4096 := ⟨colOff kk + l.val, col_lt kk l⟩

/-- A column of a tile of `B` is the device's own column of it. -/
theorem tileV_apply (c : Dev nD) (kk : Fin 4) (l : Fin 1024) (k : Fin 2048) :
    tileV m c kk (halfOf l.val) (ix3 0 k ⟨l.val - 512 * (halfOf l.val).val, halfOf_lt _ l.isLt⟩) = yOf m c (ix2 k (colAt kk l)) := by
  have hl := halfOf_le l.val
  have hc := col_lt kk l
  unfold tileV
  rw [unsqueeze]
  refine (tile_read (yOf m c) kk (halfOf l.val) k _ (by show _ + _ + (l.val - _) < _; omega)).trans (congrArg (fun z => yOf m c (ix2 k z)) (Fin.ext ?_))
  show colOff kk + 512 * (halfOf l.val).val + (l.val - 512 * (halfOf l.val).val) = colOff kk + l.val
  omega

/-- A row of a chunk of `A` is the device's own row of it. -/
theorem chunkV_apply (c : Dev nD) (q : Fin 4) (r : Fin 1024) (k : Fin 2048) :
    chunkV m c q (ix2 r k) = xOf m c (ix2 (rowAt q r) k) := chunk_read (xOf m c) q r k

/-- Where an entry of a quarter lies in its tile, -/
theorem in_tile2 (r l : Fin 1024) :
    Cert.KernelIdeal.Ring.ix2 (ix2 r l) = (ix2 r ⟨l.val - 512 * (halfOf l.val).val, halfOf_lt _ l.isLt⟩ : S1024x512.Idx) :=
  funext fun a => match a with | ⟨0, _⟩ => rfl | ⟨1, _⟩ => rfl
/-- and where it lies there for a quarter that is sent. -/
theorem in_tile3 (r l : Fin 1024) :
    Cert.KernelIdeal.Ring.ix3 (ix3 0 r l) = (ix3 0 r ⟨l.val - 512 * (halfOf l.val).val, halfOf_lt _ l.isLt⟩ : S1x1024x512.Idx) :=
  funext fun a => match a with | ⟨0, _⟩ => rfl | ⟨1, _⟩ => rfl | ⟨2, _⟩ => rfl

/-- A quarter of a local product is the device's share there, -/
theorem quarterV_apply (c : Dev nD) (kk q : Fin 4) (r l : Fin 1024) :
    quarterV m c kk q (ix2 r l) = part m c (rowAt q r) (colAt kk l) := by
  show prodF (chunkV m c q) (tileV m c kk (halfOf l.val)) (Cert.KernelIdeal.Ring.ix2 (ix2 r l)) = _
  rw [in_tile2, prodF_apply]
  exact Finset.sum_congr rfl fun k _ => congrArg₂ (fun a b : EReal => a * b) (chunkV_apply m c q r k) (tileV_apply m c kk l k)
/-- and so is the quarter that is sent first. -/
theorem initV_apply (c : Dev nD) (kk q : Fin 4) (r l : Fin 1024) :
    initV m c kk q (ix3 0 r l) = part m c (rowAt q r) (colAt kk l) := by
  show prodI (chunkV m c q) (tileV m c kk (halfOf l.val)) (Cert.KernelIdeal.Ring.ix3 (ix3 0 r l)) = _
  rw [in_tile3, prodI_apply]
  exact Finset.sum_congr rfl fun k _ => congrArg₂ (fun a b : EReal => a * b) (chunkV_apply m c q r k) (tileV_apply m c kk l k)

/-! ## The chain -/

/-- The chunk that a device works on for device `c` is chunk `c`, at every hop of the way to `c`. -/
theorem chunk_up (kk : Fin 4) (c : Dev nD) : chunk kk 3 c = c ∧ chunk kk 2 (up kk c) = c ∧ chunk kk 1 (up kk (up kk c)) = c
    ∧ chunk kk 0 (up kk (up kk (up kk c))) = c := by revert kk c; decide

/-- Once round the ring every device is met once. -/
theorem around (f : Fin 4 → EReal) (kk c : Fin 4) :
    f c + (((f (up kk (up kk (up kk c))) + f (up kk (up kk c))) + f (up kk c))) = ∑ d : Fin 4, f d := by
  have h : (up kk (up kk (up kk c)) = c + 1 ∧ up kk (up kk c) = c + 2 ∧ up kk c = c + 3)
      ∨ (up kk (up kk (up kk c)) = c + 3 ∧ up kk (up kk c) = c + 2 ∧ up kk c = c + 1) := by revert kk c; decide
  have hs : f c + f (c + 1) + f (c + 2) + f (c + 3) = ∑ d : Fin 4, f d := by
    rw [← Equiv.sum_comp (Equiv.addLeft c) f, Fin.sum_univ_four]
    simp only [Equiv.coe_addLeft, add_zero]
  rcases h with ⟨h3, h2, h1⟩ | ⟨h3, h2, h1⟩ <;> rw [h3, h2, h1, ← hs] <;> ac_rfl

/-- A quarter of the result is the sum of all devices' shares. -/
theorem finalV_apply (c : Dev nD) (kk : Fin 4) (r l : Fin 1024) :
    finalV m kk c (ix2 r l) = ∑ d : Fin 4, part m d (rowAt c r) (colAt kk l) := by
  obtain ⟨h3, h2, h1, h0⟩ := chunk_up kk c
  unfold finalV chain chain chain
  rw [finP_apply, accP_apply, accP_apply, quarterV_apply, quarterV_apply, quarterV_apply, initV_apply, h3, h2, h1, h0]
  exact around (fun d => part m d (rowAt c r) (colAt kk l)) kk c

/-! ## The whole product -/

section Whole
variable (A : Vec Ideal Cert.ReferenceIdeal.S4096x8192 .f32) (B : Vec Ideal Cert.ReferenceIdeal.S8192x4096 .f32)
  (hA : ∀ c : Dev nD, xOf m c = Layout.block ⟨2, ![4096, 2048]⟩ ⟨2, ![4096, 8192]⟩ 1 4 c A)
  (hB : ∀ c : Dev nD, yOf m c = Layout.block ⟨2, ![2048, 4096]⟩ ⟨2, ![8192, 4096]⟩ 0 4 c B)

include hA hB in
/-- A device's share is the part of the contraction that its blocks hold. -/
theorem part_eq (d : Dev nD) (i j : Fin 4096) :
    part m d i j = ∑ k : Fin 2048, A (ix2 i ⟨d.val * 2048 + k.val, by have : d.val < 4 := d.isLt; omega⟩)
      * B (ix2 ⟨d.val * 2048 + k.val, by have : d.val < 4 := d.isLt; omega⟩ j) := by
  unfold part
  rw [hA, hB]
  refine Finset.sum_congr rfl fun k _ => congrArg₂ (fun a b : EReal => a * b) (congrArg A ?_) (congrArg B ?_)
  · exact funext fun a => match a with | ⟨0, _⟩ => rfl | ⟨1, _⟩ => rfl
  · exact funext fun a => match a with | ⟨0, _⟩ => rfl | ⟨1, _⟩ => rfl

include hA hB in
/-- All the devices' shares together are the product. -/
theorem parts_sum (i j : Fin 4096) : ∑ d : Fin 4, part m d i j = ∑ k : Fin 8192, A (ix2 i k) * B (ix2 k j) := by
  rw [Fin.sum_univ_tiles 4 2048 rfl]
  exact Finset.sum_congr rfl fun d _ => part_eq m A B hA hB d i j

/-- Every column lies in some stream's quarter. -/
theorem col_some (j : Fin 4096) : ∃ kk : Fin 4, ∃ l : Fin 1024, j = colAt kk l := by
  have h : ∀ t : Fin 4, ∃ kk : Fin 4, colOff kk = 1024 * t.val := by decide
  obtain ⟨kk, hk⟩ := h ⟨j.val / 1024, by omega⟩
  refine ⟨kk, ⟨j.val % 1024, Nat.mod_lt _ (by decide)⟩, Fin.ext ?_⟩
  show j.val = colOff kk + j.val % 1024
  rw [hk]
  exact (Nat.div_add_mod j.val 1024).symm

include hA hB in
/-- What the run leaves in device `c`'s result is block `c` of the product's rows. -/
theorem result_eq (c : Dev nD) (f : Vec Ideal S1024x4096 .f32)
    (hf : ∀ kk : Fin 4, (outM kk).view.read (Elt Ideal) f = finalV m kk c) :
    f = Layout.block ⟨2, ![1024, 4096]⟩ ⟨2, ![4096, 4096]⟩ 0 4 c
      (Host.dotGeneral (F := Ideal) (φ₁ := .f32) (φ₂ := .f32) Cert.ReferenceIdeal.dot_S4096x8192_S8192x4096_S4096x4096_1_0_0_1_n_n none A B
        : Vec Ideal Cert.ReferenceIdeal.S4096x4096 .f32) := by
  funext i
  obtain ⟨kk, l, hl⟩ := col_some (i 1)
  have hi : i = ix2 (i 0) (colAt kk l) := (eq_ix2 i).trans (congrArg (ix2 (i 0)) hl)
  rw [hi]
  refine (out_at f kk (i 0) l (col_lt kk l)).symm.trans ((congrFun (hf kk) (ix2 (i 0) l)).trans ?_)
  refine (finalV_apply m c kk (i 0) l).trans ((parts_sum m A B hA hB _ _).trans ?_)
  refine (dot_apply A B _ _).symm.trans (congrArg _ ?_)
  refine funext fun a => match a with | ⟨0, _⟩ => Fin.ext ?_ | ⟨1, _⟩ => rfl
  show 1024 * c.val + (i 0).val = c.val * 1024 + (i 0).val
  omega

end Whole

end Cert.Product
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: what `run_main` says of the arguments and the semaphores. -/
theorem frame_kernel : quiescent_Kernel (hKernel := Cert.Kernel.Gen.facts) := fun m g _ =>
  (θ_run _ _ _).mono (fun _ h => ⟨fun c => (h.1 c).1, h.2⟩) (Cert.Kernel.Ring.run_main (F := Bits) m g)

/-- The ideal kernel's frame. -/
theorem frame_ideal : quiescent_KernelIdeal (hKernelIdeal := Cert.KernelIdeal.Gen.facts) := fun m g _ =>
  (θ_run _ _ _).mono (fun _ h => ⟨fun c => (h.1 c).1, h.2⟩) (Cert.KernelIdeal.Ring.run_main (F := Ideal) m g)

/-- The reference's frame: it declares no semaphore. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The four devices' results are the row blocks of the reference's product. -/
theorem product : algebraic_KernelIdeal_ReferenceIdeal (hKernelIdeal := Cert.KernelIdeal.Gen.facts)
    (hReferenceIdeal := Cert.ReferenceIdeal.Gen.facts) := fun m g m' g' _ hb =>
  ⟨_,
    (θ_run _ _ _).mono (fun _ h c => ⟨Cert.Product.result_eq m _ _ (fun d => (hb d).1) (fun d => (hb d).2) c _ (h.1 c).2, (h.1 c).1⟩)
      (Cert.KernelIdeal.Ring.run_main (F := Ideal) m g),
    (θ_run _ _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, product⟩

end Cert.Proof

end
